-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_keys [hPre_finite_keys : Cert.Pre_finite_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_keys [hPre_finite_keys : Cert.Pre_finite_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_memory_keys [hPre_finite_memory_keys : Cert.Pre_finite_memory_keys.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_memory_keys.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_memory_keys [hPre_finite_memory_keys : Cert.Pre_finite_memory_keys.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_memory_keys.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_keys [hKernelIdeal : Cert.KernelIdeal.Facts] [hPre_finite_keys : Cert.Pre_finite_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_keys [hReferenceIdeal : Cert.ReferenceIdeal.Facts] [hPre_finite_keys : Cert.Pre_finite_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Kernel2Ideal_pre_finite_memory_keys [hKernel2Ideal : Cert.Kernel2Ideal.Facts] [hPre_finite_memory_keys : Cert.Pre_finite_memory_keys.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_memory_keys m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Reference2Ideal_pre_finite_memory_keys [hReference2Ideal : Cert.Reference2Ideal.Facts] [hPre_finite_memory_keys : Cert.Pre_finite_memory_keys.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_memory_keys m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_keys [hKernelIdeal : Cert.KernelIdeal.Facts] [hReferenceIdeal : Cert.ReferenceIdeal.Facts] [hPre_finite_keys : Cert.Pre_finite_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite_memory_keys [hKernel2Ideal : Cert.Kernel2Ideal.Facts] [hReference2Ideal : Cert.Reference2Ideal.Facts] [hPre_finite_memory_keys : Cert.Pre_finite_memory_keys.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_memory_keys m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v15_0)) (v1 : (c : Dev Cert.Kernel2Ideal.nD) → Buf (Elt Ideal) ((c.tc : Thread Cert.Kernel2Ideal.nD Cert.Kernel2Ideal.τ).loc Cert.Kernel2Ideal.main_v15_1)) (v2 : (c : Dev Cert.Kernel2Ideal.nD) → Buf (Elt Ideal) ((c.tc : Thread Cert.Kernel2Ideal.nD Cert.Kernel2Ideal.τ).loc Cert.Kernel2Ideal.main_v15_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v15_0) = v0 c
          ∧ r.2.mem ((c.tc : Thread Cert.Kernel2Ideal.nD Cert.Kernel2Ideal.τ).loc Cert.Kernel2Ideal.main_v15_1) = v1 c
          ∧ r.2.mem ((c.tc : Thread Cert.Kernel2Ideal.nD Cert.Kernel2Ideal.τ).loc Cert.Kernel2Ideal.main_v15_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v65) = v0 c
          ∧ r.2.mem ((c.tc : Thread Cert.Reference2Ideal.nD Cert.Reference2Ideal.τ).loc Cert.Reference2Ideal.main_v68) = v1 c
          ∧ r.2.mem ((c.tc : Thread Cert.Reference2Ideal.nD Cert.Reference2Ideal.τ).loc Cert.Reference2Ideal.main_v70) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v46_1)) (v1 : (c : Dev Cert.Kernel3Ideal.nD) → Buf (Elt Ideal) ((c.tc : Thread Cert.Kernel3Ideal.nD Cert.Kernel3Ideal.τ).loc Cert.Kernel3Ideal.main_v46_2)) (v2 : (c : Dev Cert.Kernel3Ideal.nD) → Buf (Elt Ideal) ((c.tc : Thread Cert.Kernel3Ideal.nD Cert.Kernel3Ideal.τ).loc Cert.Kernel3Ideal.main_v46_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v46_1) = v0 c
          ∧ r.2.mem ((c.tc : Thread Cert.Kernel3Ideal.nD Cert.Kernel3Ideal.τ).loc Cert.Kernel3Ideal.main_v46_2) = v1 c
          ∧ r.2.mem ((c.tc : Thread Cert.Kernel3Ideal.nD Cert.Kernel3Ideal.τ).loc Cert.Kernel3Ideal.main_v46_3) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v22) = v0 c
          ∧ r.2.mem ((c.tc : Thread Cert.Reference3Ideal.nD Cert.Reference3Ideal.τ).loc Cert.Reference3Ideal.main_v24) = v1 c
          ∧ r.2.mem ((c.tc : Thread Cert.Reference3Ideal.nD Cert.Reference3Ideal.τ).loc Cert.Reference3Ideal.main_v26) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v5_0)) (v1 : (c : Dev Cert.Kernel4Ideal.nD) → Buf (Elt Ideal) ((c.tc : Thread Cert.Kernel4Ideal.nD Cert.Kernel4Ideal.τ).loc Cert.Kernel4Ideal.main_v5_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5_0) = v0 c
          ∧ r.2.mem ((c.tc : Thread Cert.Kernel4Ideal.nD Cert.Kernel4Ideal.τ).loc Cert.Kernel4Ideal.main_v5_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v22) = v0 c
          ∧ r.2.mem ((c.tc : Thread Cert.Reference4Ideal.nD Cert.Reference4Ideal.τ).loc Cert.Reference4Ideal.main_v24) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_keys : Cert.Pre_finite_keys.Facts) (hPre_finite_memory_keys : Cert.Pre_finite_memory_keys.Facts),
    quiescent_Kernel (hKernel := hKernel)
    ∧ quiescent_KernelIdeal (hKernelIdeal := hKernelIdeal)
    ∧ quiescent_KernelIdeal_pre_finite_keys (hKernelIdeal := hKernelIdeal) (hPre_finite_keys := hPre_finite_keys)
    ∧ quiescent_ReferenceIdeal (hReferenceIdeal := hReferenceIdeal)
    ∧ quiescent_ReferenceIdeal_pre_finite_keys (hReferenceIdeal := hReferenceIdeal) (hPre_finite_keys := hPre_finite_keys)
    ∧ quiescent_Kernel2 (hKernel2 := hKernel2)
    ∧ quiescent_Kernel2Ideal (hKernel2Ideal := hKernel2Ideal)
    ∧ quiescent_Kernel2Ideal_pre_finite_memory_keys (hKernel2Ideal := hKernel2Ideal) (hPre_finite_memory_keys := hPre_finite_memory_keys)
    ∧ quiescent_Reference2Ideal (hReference2Ideal := hReference2Ideal)
    ∧ quiescent_Reference2Ideal_pre_finite_memory_keys (hReference2Ideal := hReference2Ideal) (hPre_finite_memory_keys := hPre_finite_memory_keys)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_keys (hKernelIdeal := hKernelIdeal) (hReferenceIdeal := hReferenceIdeal) (hPre_finite_keys := hPre_finite_keys)
    ∧ preserves_Kernel2_Kernel2Ideal
    ∧ algebraic_Kernel2Ideal_Reference2Ideal_pre_finite_memory_keys (hKernel2Ideal := hKernel2Ideal) (hReference2Ideal := hReference2Ideal) (hPre_finite_memory_keys := hPre_finite_memory_keys)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite_keys.lean ====
abbrev S16384x512 : Shape := ⟨2, ![16384, 512]⟩
abbrev S1x8x257 : Shape := ⟨3, ![1, 8, 257]⟩
abbrev S1x512 : Shape := ⟨2, ![1, 512]⟩
abbrev S8x257 : Shape := ⟨2, ![8, 257]⟩
abbrev S_ : Shape := ⟨0, ![]⟩

class Facts : Prop where
  shapeCasts_S1x8x257_S8x257 : S1x8x257.ShapeCasts S8x257
  bcast_S_S8x257 : S_.BroadcastsInDim S8x257 (![] : Fin 0 → Fin S8x257.rank)
  pads_S8x257_S16384x512_0163760_02550 : S8x257.Pads (![0, 0] : Fin 2 → Nat) ![16376, 255] ![0, 0] S16384x512
  h_S_ : 0 < S_.numel
  bitsLt_bf16_f32 : FTy.bits .bf16 < FTy.bits .f32
  bcast_S_S16384x512 : S_.BroadcastsInDim S16384x512 (![] : Fin 0 → Fin S16384x512.rank)

variable [Facts]

def fn_pad {F : FTy → Type} [FloatOps F] (arg0 : IVec S8x257 1) (arg1 : IVec S_ 1) : IVec S16384x512 1 :=
  let v0 : IVec S16384x512 1 := (fun x v => pad S16384x512 ![0, 0] ![16376, 255] ![0, 0] x v pads_S8x257_S16384x512_0163760_02550 h_S_) arg0 arg1
  v0

def fn {F : FTy → Type} [FloatOps F] (main_arg0 : FVec F S16384x512 .bf16) (main_arg1 : FVec F S16384x512 .bf16) (main_arg2 : FVec F S16384x512 .bf16) (main_arg3 : FVec F S1x8x257 .f32) (main_arg4 : FVec F S1x512 .f32) : IVec S16384x512 1 :=
  let main_v0 : FVec F S8x257 .f32 := shapeCast S8x257 main_arg3 shapeCasts_S1x8x257_S8x257
  let main_v1 : FVec F S8x257 .f32 := Host.absf main_v0
  let main_cst : FVec F S_ .f32 := constant S_ .f32 0x7F800000#32
  let main_v2 : FVec F S8x257 .f32 := broadcastInDim S8x257 ![] bcast_S_S8x257 main_cst
  let main_v3 : IVec S8x257 1 := cmpf .olt main_v1 main_v2
  let main_c : IVec S_ 1 := constantI S_ 1 1#1
  let main_v4 : IVec S16384x512 1 := fn_pad (F := F) main_v3 main_c
  let main_v5 : FVec F S16384x512 .f32 := (extf .f32 · bitsLt_bf16_f32) main_arg0
  let main_v6 : FVec F S16384x512 .f32 := Host.absf main_v5
  let main_cst_0 : FVec F S_ .f32 := constant S_ .f32 0x7F800000#32
  let main_v7 : FVec F S16384x512 .f32 := broadcastInDim S16384x512 ![] bcast_S_S16384x512 main_cst_0
  let main_v8 : IVec S16384x512 1 := cmpf .olt main_v6 main_v7
  let main_v9 : FVec F S16384x512 .f32 := (extf .f32 · bitsLt_bf16_f32) main_arg1
  let main_v10 : FVec F S16384x512 .f32 := Host.absf main_v9
  let main_cst_1 : FVec F S_ .f32 := constant S_ .f32 0x7F800000#32
  let main_v11 : FVec F S16384x512 .f32 := broadcastInDim S16384x512 ![] bcast_S_S16384x512 main_cst_1
  let main_v12 : IVec S16384x512 1 := cmpf .olt main_v10 main_v11
  let main_v13 : IVec S16384x512 1 := andi main_v8 main_v12
  let main_v14 : IVec S16384x512 1 := andi main_v13 main_v4
  main_v14
-- ==== Pre_finite_memory_keys.lean ====
abbrev S2x8192x1024 : Shape := ⟨3, ![2, 8192, 1024]⟩
abbrev S16384x512 : Shape := ⟨2, ![16384, 512]⟩
abbrev S1x1024x1024 : Shape := ⟨3, ![1, 1024, 1024]⟩
abbrev S1x1024 : Shape := ⟨2, ![1, 1024]⟩
abbrev S512x1024 : Shape := ⟨2, ![512, 1024]⟩
abbrev S1x1024x2048 : Shape := ⟨3, ![1, 1024, 2048]⟩
abbrev S_ : Shape := ⟨0, ![]⟩
abbrev S1024x1024 : Shape := ⟨2, ![1024, 1024]⟩

class Facts : Prop where
  bitsLt_bf16_f32 : FTy.bits .bf16 < FTy.bits .f32
  bcast_S_S512x1024 : S_.BroadcastsInDim S512x1024 (![] : Fin 0 → Fin S512x1024.rank)
  pads_S512x1024_S1024x1024_05120_000 : S512x1024.Pads (![0, 0] : Fin 2 → Nat) ![512, 0] ![0, 0] S1024x1024
  h_S_ : 0 < S_.numel
  shapeCasts_S1x1024x1024_S1024x1024 : S1x1024x1024.ShapeCasts S1024x1024
  bcast_S_S1024x1024 : S_.BroadcastsInDim S1024x1024 (![] : Fin 0 → Fin S1024x1024.rank)
  bcast_S_S1x1024 : S_.BroadcastsInDim S1x1024 (![] : Fin 0 → Fin S1x1024.rank)
  bcast_S1x1024_S1024x1024_0_1 : S1x1024.BroadcastsInDim S1024x1024 (![0, 1] : Fin 2 → Fin S1024x1024.rank)

variable [Facts]

def fn_pad {F : FTy → Type} [FloatOps F] (arg0 : IVec S512x1024 1) (arg1 : IVec S_ 1) : IVec S1024x1024 1 :=
  let v0 : IVec S1024x1024 1 := (fun x v => pad S1024x1024 ![0, 0] ![512, 0] ![0, 0] x v pads_S512x1024_S1024x1024_05120_000 h_S_) arg0 arg1
  v0

def fn {F : FTy → Type} [FloatOps F] (main_arg0 : FVec F S2x8192x1024 .f32) (main_arg1 : FVec F S16384x512 .bf16) (main_arg2 : FVec F S16384x512 .bf16) (main_arg3 : FVec F S1x1024x1024 .f32) (main_arg4 : FVec F S1x1024 .f32) (main_arg5 : FVec F S1x1024x1024 .f32) (main_arg6 : FVec F S512x1024 .bf16) (main_arg7 : FVec F S512x1024 .bf16) (main_arg8 : FVec F S1x1024x1024 .f32) (main_arg9 : FVec F S1x1024 .f32) (main_arg10 : FVec F S1x1024x2048 .f32) : IVec S1024x1024 1 :=
  let main_v0 : FVec F S512x1024 .f32 := (extf .f32 · bitsLt_bf16_f32) main_arg6
  let main_v1 : FVec F S512x1024 .f32 := Host.absf main_v0
  let main_cst : FVec F S_ .f32 := constant S_ .f32 0x7F800000#32
  let main_v2 : FVec F S512x1024 .f32 := broadcastInDim S512x1024 ![] bcast_S_S512x1024 main_cst
  let main_v3 : IVec S512x1024 1 := cmpf .olt main_v1 main_v2
  let main_c : IVec S_ 1 := constantI S_ 1 1#1
  let main_v4 : IVec S1024x1024 1 := fn_pad (F := F) main_v3 main_c
  let main_v5 : FVec F S1024x1024 .f32 := shapeCast S1024x1024 main_arg5 shapeCasts_S1x1024x1024_S1024x1024
  let main_v6 : FVec F S1024x1024 .f32 := Host.absf main_v5
  let main_cst_0 : FVec F S_ .f32 := constant S_ .f32 0x7F800000#32
  let main_v7 : FVec F S1024x1024 .f32 := broadcastInDim S1024x1024 ![] bcast_S_S1024x1024 main_cst_0
  let main_v8 : IVec S1024x1024 1 := cmpf .olt main_v6 main_v7
  let main_v9 : FVec F S1x1024 .f32 := Host.absf main_arg4
  let main_cst_1 : FVec F S_ .f32 := constant S_ .f32 0x7F800000#32
  let main_v10 : FVec F S1x1024 .f32 := broadcastInDim S1x1024 ![] bcast_S_S1x1024 main_cst_1
  let main_v11 : IVec S1x1024 1 := cmpf .olt main_v9 main_v10
  let main_v12 : IVec S1024x1024 1 := broadcastInDim S1024x1024 ![0, 1] bcast_S1x1024_S1024x1024_0_1 main_v11
  let main_v13 : IVec S1024x1024 1 := andi main_v8 main_v12
  let main_v14 : IVec S1024x1024 1 := andi main_v13 main_v4
  main_v14
-- ==== Kernel.lean ====
abbrev S16384x512 : Shape := ⟨2, ![16384, 512]⟩
abbrev S1x8x257 : Shape := ⟨3, ![1, 8, 257]⟩
abbrev S1x512 : Shape := ⟨2, ![1, 512]⟩
abbrev S256x1 : Shape := ⟨2, ![256, 1]⟩
abbrev S1x768 : Shape := ⟨2, ![1, 768]⟩
abbrev S1024 : Shape := ⟨1, ![1024]⟩
abbrev S8x257 : Shape := ⟨2, ![8, 257]⟩
abbrev S256x768 : Shape := ⟨2, ![256, 768]⟩
abbrev S_ : Shape := ⟨0, ![]⟩
abbrev S1024x1 : Shape := ⟨2, ![1024, 1]⟩
abbrev S8x1024 : Shape := ⟨2, ![8, 1024]⟩
abbrev S1x8x1x1024 : Shape := ⟨4, ![1, 8, 1, 1024]⟩
abbrev S1x8x256x1024 : Shape := ⟨4, ![1, 8, 256, 1024]⟩
abbrev S8x262144 : Shape := ⟨2, ![8, 262144]⟩
abbrev S8x261888 : Shape := ⟨2, ![8, 261888]⟩
abbrev S8x256x1023 : Shape := ⟨3, ![8, 256, 1023]⟩
abbrev S1x256x768 : Shape := ⟨3, ![1, 256, 768]⟩
abbrev S8x256x768 : Shape := ⟨3, ![8, 256, 768]⟩
abbrev S512 : Shape := ⟨1, ![512]⟩
abbrev S1024x512 : Shape := ⟨2, ![1024, 512]⟩
abbrev S256x512 : Shape := ⟨2, ![256, 512]⟩
abbrev S512x768 : Shape := ⟨2, ![512, 768]⟩
abbrev S1x128 : Shape := ⟨2, ![1, 128]⟩
abbrev S256x128 : Shape := ⟨2, ![256, 128]⟩
abbrev S768x128 : Shape := ⟨2, ![768, 128]⟩
abbrev S512x128 : Shape := ⟨2, ![512, 128]⟩
abbrev S2x256x768 : Shape := ⟨3, ![2, 256, 768]⟩
abbrev S512x1 : Shape := ⟨2, ![512, 1]⟩
abbrev S768x256 : Shape := ⟨2, ![768, 256]⟩
abbrev S512x256 : Shape := ⟨2, ![512, 256]⟩
abbrev S256 : Shape := ⟨1, ![256]⟩

abbrev nBuf : Space → Nat
  | .hbm => 41
  | .vmem => 30
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S1x8x257, .f32⟩
  | .hbm, ⟨4, _⟩ => ⟨S1x512, .f32⟩
  | .hbm, ⟨5, _⟩ => ⟨S256x1, .i32⟩
  | .hbm, ⟨6, _⟩ => ⟨S1x768, .i32⟩
  | .hbm, ⟨7, _⟩ => ⟨S1024, .i32⟩
  | .hbm, ⟨8, _⟩ => ⟨S1024, .i1⟩
  | .hbm, ⟨9, _⟩ => ⟨S8x257, .f32⟩
  | .hbm, ⟨10, _⟩ => ⟨S256x768, .i32⟩
  | .hbm, ⟨11, _⟩ => ⟨S256x768, .i32⟩
  | .hbm, ⟨12, _⟩ => ⟨S256x768, .i1⟩
  | .hbm, ⟨13, _⟩ => ⟨S_, .i32⟩
  | .hbm, ⟨14, _⟩ => ⟨S256x1, .i32⟩
  | .hbm, ⟨15, _⟩ => ⟨S256x1, .i32⟩
  | .hbm, ⟨16, _⟩ => ⟨S256x768, .i32⟩
  | .hbm, ⟨17, _⟩ => ⟨S256x768, .i32⟩
  | .hbm, ⟨18, _⟩ => ⟨S256x768, .i1⟩
  | .hbm, ⟨19, _⟩ => ⟨S256x768, .i1⟩
  | .hbm, ⟨20, _⟩ => ⟨S_, .i32⟩
  | .hbm, ⟨21, _⟩ => ⟨S1024, .i32⟩
  | .hbm, ⟨22, _⟩ => ⟨S1024, .i32⟩
  | .hbm, ⟨23, _⟩ => ⟨S1024, .i32⟩
  | .hbm, ⟨24, _⟩ => ⟨S1024x1, .i32⟩
  | .hbm, ⟨25, _⟩ => ⟨S8x1024, .f32⟩
  | .hbm, ⟨26, _⟩ => ⟨S1x8x1x1024, .f32⟩
  | .hbm, ⟨27, _⟩ => ⟨S1x8x256x1024, .f32⟩
  | .hbm, ⟨28, _⟩ => ⟨S8x262144, .f32⟩
  | .hbm, ⟨29, _⟩ => ⟨S8x261888, .f32⟩
  | .hbm, ⟨30, _⟩ => ⟨S8x256x1023, .f32⟩
  | .hbm, ⟨31, _⟩ => ⟨S1x256x768, .i1⟩
  | .hbm, ⟨32, _⟩ => ⟨S8x256x768, .f32⟩
  | .hbm, ⟨33, _⟩ => ⟨S_, .f32⟩
  | .hbm, ⟨34, _⟩ => ⟨S_, .f32⟩
  | .hbm, ⟨35, _⟩ => ⟨S8x256x768, .i1⟩
  | .hbm, ⟨36, _⟩ => ⟨S8x256x768, .f32⟩
  | .hbm, ⟨37, _⟩ => ⟨S8x256x768, .f32⟩
  | .hbm, ⟨38, _⟩ => ⟨S512, .f32⟩
  | .hbm, ⟨39, _⟩ => ⟨S1x512, .f32⟩
  | .hbm, ⟨40, _⟩ => ⟨S16384x512, .bf16⟩
  | .local _ .vmem, ⟨0, _⟩ => ⟨S1024x512, .bf16⟩
  | .local _ .vmem, ⟨1, _⟩ => ⟨S1024x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | .local _ .vmem, ⟨18, _⟩ => ⟨S256x512, .bf16⟩
  | .local _ .vmem, ⟨19, _⟩ => ⟨S256x512, .bf16⟩
  | .local _ .vmem, ⟨20, _⟩ => ⟨S256x512, .bf16⟩
  | .local _ .vmem, ⟨21, _⟩ => ⟨S256x512, .bf16⟩
  | .local _ .vmem, ⟨22, _⟩ => ⟨S256x512, .bf16⟩
  | .local _ .vmem, ⟨23, _⟩ => ⟨S256x512, .bf16⟩
  | .local _ .vmem, ⟨24, _⟩ => ⟨S256x512, .bf16⟩
  | .local _ .vmem, ⟨25, _⟩ => ⟨S256x512, .bf16⟩
  | .local _ .vmem, ⟨26, _⟩ => ⟨S8x256x768, .f32⟩
  | .local _ .vmem, ⟨27, _⟩ => ⟨S1x512, .f32⟩
  | .local _ .vmem, ⟨28, _⟩ => ⟨S1024x512, .bf16⟩
  | .local _ .vmem, ⟨29, _⟩ => ⟨S1024x512, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_c_2 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_4 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg14_0 : Ref sig .tc := ⟨.vmem, 27, rfl⟩
abbrev cc0_stg15_0 : Ref sig .tc := ⟨.vmem, 28, rfl⟩
abbrev cc0_stg15_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem14_0 : DmaSem sig := 27
abbrev cc0_sem15_0 : DmaSem sig := 28
abbrev cc0_sem15_1 : DmaSem sig := 29

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c4_i32 : BitVec 32 := 4#32
  let v1 : BitVec 32 := Scalar.muli c4_i32 arg1
  let c2_i32 : BitVec 32 := 2#32
  let v2 : BitVec 32 := Scalar.subi v1 c2_i32
  let c0_i32 : BitVec 32 := 0#32
  let v3 : BitVec 32 := Scalar.addi v2 c0_i32
  let c0_i32_0 : BitVec 32 := 0#32
  let v4 : BitVec 32 := Scalar.maxsi v3 c0_i32_0
  let v5 : BitVec 32 := Scalar.addi v0 v4
  let c0_i32_1 : BitVec 32 := 0#32
  let c0_i32_2 : BitVec 32 := 0#32
  ![v5.toNat, c0_i32_1.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c4_i32 : BitVec 32 := 4#32
  let v1 : BitVec 32 := Scalar.muli c4_i32 arg1
  let c2_i32 : BitVec 32 := 2#32
  let v2 : BitVec 32 := Scalar.subi v1 c2_i32
  let c1_i32 : BitVec 32 := 1#32
  let v3 : BitVec 32 := Scalar.addi v2 c1_i32
  let c0_i32 : BitVec 32 := 0#32
  let v4 : BitVec 32 := Scalar.maxsi v3 c0_i32
  let v5 : BitVec 32 := Scalar.addi v0 v4
  let c0_i32_0 : BitVec 32 := 0#32
  let c0_i32_1 : BitVec 32 := 0#32
  ![v5.toNat, c0_i32_0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c4_i32 : BitVec 32 := 4#32
  let v1 : BitVec 32 := Scalar.muli c4_i32 arg1
  let c2_i32 : BitVec 32 := 2#32
  let v2 : BitVec 32 := Scalar.subi v1 c2_i32
  let c2_i32_0 : BitVec 32 := 2#32
  let v3 : BitVec 32 := Scalar.addi v2 c2_i32_0
  let c0_i32 : BitVec 32 := 0#32
  let v4 : BitVec 32 := Scalar.maxsi v3 c0_i32
  let v5 : BitVec 32 := Scalar.addi v0 v4
  let c0_i32_1 : BitVec 32 := 0#32
  let c0_i32_2 : BitVec 32 := 0#32
  ![v5.toNat, c0_i32_1.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c4_i32 : BitVec 32 := 4#32
  let v1 : BitVec 32 := Scalar.muli c4_i32 arg1
  let c2_i32 : BitVec 32 := 2#32
  let v2 : BitVec 32 := Scalar.subi v1 c2_i32
  let c3_i32 : BitVec 32 := 3#32
  let v3 : BitVec 32 := Scalar.addi v2 c3_i32
  let c0_i32 : BitVec 32 := 0#32
  let v4 : BitVec 32 := Scalar.maxsi v3 c0_i32
  let v5 : BitVec 32 := Scalar.addi v0 v4
  let c0_i32_0 : BitVec 32 := 0#32
  let c0_i32_1 : BitVec 32 := 0#32
  ![v5.toNat, c0_i32_0.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c4_i32 : BitVec 32 := 4#32
  let v1 : BitVec 32 := Scalar.muli c4_i32 arg1
  let c2_i32 : BitVec 32 := 2#32
  let v2 : BitVec 32 := Scalar.subi v1 c2_i32
  let c4_i32_0 : BitVec 32 := 4#32
  let v3 : BitVec 32 := Scalar.addi v2 c4_i32_0
  let c0_i32 : BitVec 32 := 0#32
  let v4 : BitVec 32 := Scalar.maxsi v3 c0_i32
  let v5 : BitVec 32 := Scalar.addi v0 v4
  let c0_i32_1 : BitVec 32 := 0#32
  let c0_i32_2 : BitVec 32 := 0#32
  ![v5.toNat, c0_i32_1.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c4_i32 : BitVec 32 := 4#32
  let v1 : BitVec 32 := Scalar.muli c4_i32 arg1
  let c2_i32 : BitVec 32 := 2#32
  let v2 : BitVec 32 := Scalar.subi v1 c2_i32
  let c5_i32 : BitVec 32 := 5#32
  let v3 : BitVec 32 := Scalar.addi v2 c5_i32
  let c0_i32 : BitVec 32 := 0#32
  let v4 : BitVec 32 := Scalar.maxsi v3 c0_i32
  let v5 : BitVec 32 := Scalar.addi v0 v4
  let c0_i32_0 : BitVec 32 := 0#32
  let c0_i32_1 : BitVec 32 := 0#32
  ![v5.toNat, c0_i32_0.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c4_i32 : BitVec 32 := 4#32
  let v1 : BitVec 32 := Scalar.muli c4_i32 arg1
  let c2_i32 : BitVec 32 := 2#32
  let v2 : BitVec 32 := Scalar.subi v1 c2_i32
  let c0_i32 : BitVec 32 := 0#32
  let v3 : BitVec 32 := Scalar.addi v2 c0_i32
  let c0_i32_0 : BitVec 32 := 0#32
  let v4 : BitVec 32 := Scalar.maxsi v3 c0_i32_0
  let v5 : BitVec 32 := Scalar.addi v0 v4
  let c0_i32_1 : BitVec 32 := 0#32
  let c0_i32_2 : BitVec 32 := 0#32
  ![v5.toNat, c0_i32_1.toNat]

def cc0_transform_8 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c4_i32 : BitVec 32 := 4#32
  let v1 : BitVec 32 := Scalar.muli c4_i32 arg1
  let c2_i32 : BitVec 32 := 2#32
  let v2 : BitVec 32 := Scalar.subi v1 c2_i32
  let c1_i32 : BitVec 32 := 1#32
  let v3 : BitVec 32 := Scalar.addi v2 c1_i32
  let c0_i32 : BitVec 32 := 0#32
  let v4 : BitVec 32 := Scalar.maxsi v3 c0_i32
  let v5 : BitVec 32 := Scalar.addi v0 v4
  let c0_i32_0 : BitVec 32 := 0#32
  let c0_i32_1 : BitVec 32 := 0#32
  ![v5.toNat, c0_i32_0.toNat]

def cc0_transform_9 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c4_i32 : BitVec 32 := 4#32
  let v1 : BitVec 32 := Scalar.muli c4_i32 arg1
  let c2_i32 : BitVec 32 := 2#32
  let v2 : BitVec 32 := Scalar.subi v1 c2_i32
  let c2_i32_0 : BitVec 32 := 2#32
  let v3 : BitVec 32 := Scalar.addi v2 c2_i32_0
  let c0_i32 : BitVec 32 := 0#32
  let v4 : BitVec 32 := Scalar.maxsi v3 c0_i32
  let v5 : BitVec 32 := Scalar.addi v0 v4
  let c0_i32_1 : BitVec 32 := 0#32
  let c0_i32_2 : BitVec 32 := 0#32
  ![v5.toNat, c0_i32_1.toNat]

def cc0_transform_10 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c4_i32 : BitVec 32 := 4#32
  let v1 : BitVec 32 := Scalar.muli c4_i32 arg1
  let c2_i32 : BitVec 32 := 2#32
  let v2 : BitVec 32 := Scalar.subi v1 c2_i32
  let c3_i32 : BitVec 32 := 3#32
  let v3 : BitVec 32 := Scalar.addi v2 c3_i32
  let c0_i32 : BitVec 32 := 0#32
  let v4 : BitVec 32 := Scalar.maxsi v3 c0_i32
  let v5 : BitVec 32 := Scalar.addi v0 v4
  let c0_i32_0 : BitVec 32 := 0#32
  let c0_i32_1 : BitVec 32 := 0#32
  ![v5.toNat, c0_i32_0.toNat]

def cc0_transform_11 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c4_i32 : BitVec 32 := 4#32
  let v1 : BitVec 32 := Scalar.muli c4_i32 arg1
  let c2_i32 : BitVec 32 := 2#32
  let v2 : BitVec 32 := Scalar.subi v1 c2_i32
  let c4_i32_0 : BitVec 32 := 4#32
  let v3 : BitVec 32 := Scalar.addi v2 c4_i32_0
  let c0_i32 : BitVec 32 := 0#32
  let v4 : BitVec 32 := Scalar.maxsi v3 c0_i32
  let v5 : BitVec 32 := Scalar.addi v0 v4
  let c0_i32_1 : BitVec 32 := 0#32
  let c0_i32_2 : BitVec 32 := 0#32
  ![v5.toNat, c0_i32_1.toNat]

def cc0_transform_12 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c4_i32 : BitVec 32 := 4#32
  let v1 : BitVec 32 := Scalar.muli c4_i32 arg1
  let c2_i32 : BitVec 32 := 2#32
  let v2 : BitVec 32 := Scalar.subi v1 c2_i32
  let c5_i32 : BitVec 32 := 5#32
  let v3 : BitVec 32 := Scalar.addi v2 c5_i32
  let c0_i32 : BitVec 32 := 0#32
  let v4 : BitVec 32 := Scalar.maxsi v3 c0_i32
  let v5 : BitVec 32 := Scalar.addi v0 v4
  let c0_i32_0 : BitVec 32 := 0#32
  let c0_i32_1 : BitVec 32 := 0#32
  ![v5.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 1 → Memref sig .tc .vmem S8x256x768 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1024x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16384x512 : Shape := ⟨2, ![16384, 512]⟩
abbrev S1x8x257 : Shape := ⟨3, ![1, 8, 257]⟩
abbrev S1x512 : Shape := ⟨2, ![1, 512]⟩
abbrev S2x8192x512 : Shape := ⟨3, ![2, 8192, 512]⟩
abbrev S8x257 : Shape := ⟨2, ![8, 257]⟩
abbrev S2x128x64x8x64 : Shape := ⟨5, ![2, 128, 64, 8, 64]⟩
abbrev S_ : Shape := ⟨0, ![]⟩
abbrev S2x136x64x8x64 : Shape := ⟨5, ![2, 136, 64, 8, 64]⟩
abbrev S2x128x576x8x64 : Shape := ⟨5, ![2, 128, 576, 8, 64]⟩
abbrev S2x128x8x64x576 : Shape := ⟨5, ![2, 128, 8, 64, 576]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S8x64x576 : Shape := ⟨3, ![8, 64, 576]⟩
abbrev S128 : Shape := ⟨1, ![128]⟩
abbrev S128x1 : Shape := ⟨2, ![128, 1]⟩
abbrev S128x576 : Shape := ⟨2, ![128, 576]⟩
abbrev S1x128x1x1x576 : Shape := ⟨5, ![1, 128, 1, 1, 576]⟩
abbrev S1x1x8x64x576 : Shape := ⟨5, ![1, 1, 8, 64, 576]⟩
abbrev S2x128x8x64 : Shape := ⟨4, ![2, 128, 8, 64]⟩
abbrev S2x128x8x64x1 : Shape := ⟨5, ![2, 128, 8, 64, 1]⟩
abbrev S2x128x8x64x64 : Shape := ⟨5, ![2, 128, 8, 64, 64]⟩
abbrev S512 : Shape := ⟨1, ![512]⟩
abbrev S2x8192 : Shape := ⟨2, ![2, 8192]⟩
abbrev S2x8192x1 : Shape := ⟨3, ![2, 8192, 1]⟩
abbrev S1x1x512 : Shape := ⟨3, ![1, 1, 512]⟩

abbrev nBuf : Space → Nat
  | .hbm => 136
  | .vmem => 0
  | .smem => 0
  | _ => 0

abbrev hbmTy0_0 (i : Nat) : BufTy := match i % 128 with
  | 0 => ⟨S16384x512, .bf16⟩
  | 1 => ⟨S16384x512, .bf16⟩
  | 2 => ⟨S16384x512, .bf16⟩
  | 3 => ⟨S1x8x257, .f32⟩
  | 4 => ⟨S1x512, .f32⟩
  | 5 => ⟨S16384x512, .f32⟩
  | 6 => ⟨S2x8192x512, .f32⟩
  | 7 => ⟨S16384x512, .f32⟩
  | 8 => ⟨S2x8192x512, .f32⟩
  | 9 => ⟨S16384x512, .f32⟩
  | 10 => ⟨S2x8192x512, .f32⟩
  | 11 => ⟨S8x257, .f32⟩
  | 12 => ⟨S2x128x64x8x64, .f32⟩
  | 13 => ⟨S2x128x64x8x64, .f32⟩
  | 14 => ⟨S2x128x64x8x64, .f32⟩
  | 15 => ⟨S_, .i32⟩
  | 16 => ⟨S_, .f32⟩
  | 17 => ⟨S2x136x64x8x64, .f32⟩
  | 18 => ⟨S_, .i32⟩
  | 19 => ⟨S_, .f32⟩
  | 20 => ⟨S2x136x64x8x64, .f32⟩
  | 21 => ⟨S2x128x64x8x64, .f32⟩
  | 22 => ⟨S2x128x64x8x64, .f32⟩
  | 23 => ⟨S2x128x64x8x64, .f32⟩
  | 24 => ⟨S2x128x64x8x64, .f32⟩
  | 25 => ⟨S2x128x64x8x64, .f32⟩
  | 26 => ⟨S2x128x64x8x64, .f32⟩
  | 27 => ⟨S2x128x64x8x64, .f32⟩
  | 28 => ⟨S2x128x64x8x64, .f32⟩
  | 29 => ⟨S2x128x64x8x64, .f32⟩
  | 30 => ⟨S2x128x576x8x64, .f32⟩
  | 31 => ⟨S2x128x64x8x64, .f32⟩
  | 32 => ⟨S2x128x64x8x64, .f32⟩
  | 33 => ⟨S2x128x64x8x64, .f32⟩
  | 34 => ⟨S2x128x64x8x64, .f32⟩
  | 35 => ⟨S2x128x64x8x64, .f32⟩
  | 36 => ⟨S2x128x64x8x64, .f32⟩
  | 37 => ⟨S2x128x64x8x64, .f32⟩
  | 38 => ⟨S2x128x64x8x64, .f32⟩
  | 39 => ⟨S2x128x64x8x64, .f32⟩
  | 40 => ⟨S2x128x576x8x64, .f32⟩
  | 41 => ⟨S2x128x8x64x576, .f32⟩
  | 42 => ⟨S_, .f32⟩
  | 43 => ⟨S2x128x8x64x576, .f32⟩
  | 44 => ⟨S2x128x8x64x576, .f32⟩
  | 45 => ⟨S64, .i32⟩
  | 46 => ⟨S64x1, .i32⟩
  | 47 => ⟨S_, .i32⟩
  | 48 => ⟨S64x1, .i32⟩
  | 49 => ⟨S64x1, .i32⟩
  | 50 => ⟨S576, .i32⟩
  | 51 => ⟨S1x576, .i32⟩
  | 52 => ⟨S64x576, .i32⟩
  | 53 => ⟨S64x576, .i32⟩
  | 54 => ⟨S64x576, .i32⟩
  | 55 => ⟨S_, .i32⟩
  | 56 => ⟨S_, .i32⟩
  | 57 => ⟨S_, .i32⟩
  | 58 => ⟨S64x576, .i32⟩
  | 59 => ⟨S64x576, .i32⟩
  | 60 => ⟨S_, .i32⟩
  | 61 => ⟨S64x576, .i32⟩
  | 62 => ⟨S64x576, .i32⟩
  | 63 => ⟨S_, .i32⟩
  | 64 => ⟨S64x576, .i32⟩
  | 65 => ⟨S64x576, .i32⟩
  | 66 => ⟨S_, .i32⟩
  | 67 => ⟨S64x576, .i32⟩
  | 68 => ⟨S64x576, .i1⟩
  | 69 => ⟨S_, .i32⟩
  | 70 => ⟨S64x576, .i32⟩
  | 71 => ⟨S64x576, .i32⟩
  | 72 => ⟨S64x576, .i32⟩
  | 73 => ⟨S64x576x1, .i32⟩
  | 74 => ⟨S8x64x576, .f32⟩
  | 75 => ⟨S128, .i32⟩
  | 76 => ⟨S128x1, .i32⟩
  | 77 => ⟨S_, .i32⟩
  | 78 => ⟨S128x1, .i32⟩
  | 79 => ⟨S128x1, .i32⟩
  | 80 => ⟨S_, .i32⟩
  | 81 => ⟨S128x1, .i32⟩
  | 82 => ⟨S128x1, .i32⟩
  | 83 => ⟨S576, .i32⟩
  | 84 => ⟨S1x576, .i32⟩
  | 85 => ⟨S128x576, .i32⟩
  | 86 => ⟨S128x576, .i32⟩
  | 87 => ⟨S128x576, .i32⟩
  | 88 => ⟨S_, .i32⟩
  | 89 => ⟨S128x576, .i32⟩
  | 90 => ⟨S128x576, .i1⟩
  | 91 => ⟨S1x128x1x1x576, .i1⟩
  | 92 => ⟨S1x1x8x64x576, .f32⟩
  | 93 => ⟨S2x128x8x64x576, .f32⟩
  | 94 => ⟨S2x128x8x64x576, .f32⟩
  | 95 => ⟨S_, .f32⟩
  | 96 => ⟨S_, .f32⟩
  | 97 => ⟨S2x128x8x64x576, .i1⟩
  | 98 => ⟨S2x128x8x64x576, .f32⟩
  | 99 => ⟨S2x128x8x64x576, .f32⟩
  | 100 => ⟨S_, .f32⟩
  | 101 => ⟨S2x128x8x64, .f32⟩
  | 102 => ⟨S_, .f32⟩
  | 103 => ⟨S2x128x8x64, .f32⟩
  | 104 => ⟨S2x128x8x64, .f32⟩
  | 105 => ⟨S2x128x8x64x1, .f32⟩
  | 106 => ⟨S2x128x8x64x576, .f32⟩
  | 107 => ⟨S2x128x8x64x576, .f32⟩
  | 108 => ⟨S2x128x8x64x576, .f32⟩
  | 109 => ⟨S_, .f32⟩
  | 110 => ⟨S2x128x8x64, .f32⟩
  | 111 => ⟨S2x128x8x64x1, .f32⟩
  | 112 => ⟨S2x128x8x64x576, .f32⟩
  | 113 => ⟨S2x128x8x64x576, .f32⟩
  | 114 => ⟨S2x128x8x64x64, .f32⟩
  | 115 => ⟨S2x128x64x8x64, .f32⟩
  | 116 => ⟨S2x8192x512, .f32⟩
  | 117 => ⟨S512, .f32⟩
  | 118 => ⟨S2x8192x512, .f32⟩
  | 119 => ⟨S_, .f32⟩
  | 120 => ⟨S2x8192, .f32⟩
  | 121 => ⟨S2x8192x1, .f32⟩
  | 122 => ⟨S_, .f32⟩
  | 123 => ⟨S2x8192x1, .f32⟩
  | 124 => ⟨S2x8192x1, .f32⟩
  | 125 => ⟨S_, .f32⟩
  | 126 => ⟨S2x8192x1, .f32⟩
  | 127 => ⟨S2x8192x1, .f32⟩
  | _ => ⟨S16384x512, .bf16⟩

abbrev hbmTy0_1 (i : Nat) : BufTy := match i % 128 with
  | 0 => ⟨S2x8192x1, .f32⟩
  | 1 => ⟨S2x8192x512, .f32⟩
  | 2 => ⟨S2x8192x512, .f32⟩
  | 3 => ⟨S1x1x512, .f32⟩
  | 4 => ⟨S2x8192x512, .f32⟩
  | 5 => ⟨S2x8192x512, .f32⟩
  | 6 => ⟨S16384x512, .f32⟩
  | 7 => ⟨S16384x512, .bf16⟩
  | _ => ⟨S16384x512, .bf16⟩

abbrev hbmTy (i : Nat) : BufTy := match i / 128 with
  | 0 => hbmTy0_0 i
  | 1 => hbmTy0_1 i
  | _ => ⟨S16384x512, .bf16⟩

abbrev bufTy : (tb : Table) → Fin (tcTables nBuf tb) → BufTy
  | .hbm, ⟨i, _⟩ => hbmTy i
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_call0_v0 : Ref sig .tc := ⟨.hbm, 16, rfl⟩
abbrev main_v10 : Ref sig .tc := ⟨.hbm, 17, rfl⟩
abbrev main_c_0 : Ref sig .tc := ⟨.hbm, 18, rfl⟩
abbrev main_call1_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_c_1 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_c_2 : Ref sig .tc := ⟨.hbm, 55, rfl⟩
abbrev main_c_3 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_v44 : Ref sig .tc := ⟨.hbm, 62, rfl⟩
abbrev main_c_4 : Ref sig .tc := ⟨.hbm, 63, rfl⟩
abbrev main_v45 : Ref sig .tc := ⟨.hbm, 64, rfl⟩
abbrev main_v46 : Ref sig .tc := ⟨.hbm, 65, rfl⟩
abbrev main_c_5 : Ref sig .tc := ⟨.hbm, 66, rfl⟩
abbrev main_v47 : Ref sig .tc := ⟨.hbm, 67, rfl⟩
abbrev main_v48 : Ref sig .tc := ⟨.hbm, 68, rfl⟩
abbrev main_c_6 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_c_7 : Ref sig .tc := ⟨.hbm, 77, rfl⟩
abbrev main_v56 : Ref sig .tc := ⟨.hbm, 78, rfl⟩
abbrev main_v57 : Ref sig .tc := ⟨.hbm, 79, rfl⟩
abbrev main_c_8 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_c_9 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_10 : Ref sig .tc := ⟨.hbm, 95, rfl⟩
abbrev main_call3_v0 : Ref sig .tc := ⟨.hbm, 96, rfl⟩
abbrev main_call3_v1 : Ref sig .tc := ⟨.hbm, 97, rfl⟩
abbrev main_call3_v2 : Ref sig .tc := ⟨.hbm, 98, rfl⟩
abbrev main_v71 : Ref sig .tc := ⟨.hbm, 99, rfl⟩
abbrev main_cst_11 : Ref sig .tc := ⟨.hbm, 100, rfl⟩
abbrev main_v72 : Ref sig .tc := ⟨.hbm, 101, rfl⟩
abbrev main_cst_12 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_13 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_cst_14 : Ref sig .tc := ⟨.hbm, 119, rfl⟩
abbrev main_v88 : Ref sig .tc := ⟨.hbm, 120, rfl⟩
abbrev main_v89 : Ref sig .tc := ⟨.hbm, 121, rfl⟩
abbrev main_cst_15 : Ref sig .tc := ⟨.hbm, 122, rfl⟩
abbrev main_v90 : Ref sig .tc := ⟨.hbm, 123, rfl⟩
abbrev main_v91 : Ref sig .tc := ⟨.hbm, 124, rfl⟩
abbrev main_cst_16 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩

abbrev nD : Nat := 1
abbrev τ : Topo := Topo.v7x

variable {F : FTy → Type} [FloatOps F]
-- ==== Kernel2.lean ====
abbrev S2x8192x1024 : Shape := ⟨3, ![2, 8192, 1024]⟩
abbrev S16384x512 : Shape := ⟨2, ![16384, 512]⟩
abbrev S1x1024x1024 : Shape := ⟨3, ![1, 1024, 1024]⟩
abbrev S1x1024 : Shape := ⟨2, ![1, 1024]⟩
abbrev S512x1024 : Shape := ⟨2, ![512, 1024]⟩
abbrev S1x1024x2048 : Shape := ⟨3, ![1, 1024, 2048]⟩
abbrev S1024x1024 : Shape := ⟨2, ![1024, 1024]⟩
abbrev S16384x1024 : Shape := ⟨2, ![16384, 1024]⟩
abbrev S1024 : Shape := ⟨1, ![1024]⟩
abbrev S1024x2048 : Shape := ⟨2, ![1024, 2048]⟩
abbrev S1024x16384 : Shape := ⟨2, ![1024, 16384]⟩
abbrev S16384x2048 : Shape := ⟨2, ![16384, 2048]⟩
abbrev S1024x512 : Shape := ⟨2, ![1024, 512]⟩
abbrev S256x1024 : Shape := ⟨2, ![256, 1024]⟩
abbrev S1024x1 : Shape := ⟨2, ![1024, 1]⟩
abbrev S1024x256 : Shape := ⟨2, ![1024, 256]⟩
abbrev S256x256 : Shape := ⟨2, ![256, 256]⟩

abbrev nBuf : Space → Nat
  | .hbm => 29
  | .vmem => 23
  | .smem => 0
  | _ => 0

abbrev bufTy : (tb : Table) → Fin (tcTables nBuf tb) → BufTy
  | .hbm, ⟨0, _⟩ => ⟨S2x8192x1024, .f32⟩
  | .hbm, ⟨1, _⟩ => ⟨S16384x512, .bf16⟩
  | .hbm, ⟨2, _⟩ => ⟨S16384x512, .bf16⟩
  | .hbm, ⟨3, _⟩ => ⟨S1x1024x1024, .f32⟩
  | .hbm, ⟨4, _⟩ => ⟨S1x1024, .f32⟩
  | .hbm, ⟨5, _⟩ => ⟨S1x1024x1024, .f32⟩
  | .hbm, ⟨6, _⟩ => ⟨S512x1024, .bf16⟩
  | .hbm, ⟨7, _⟩ => ⟨S512x1024, .bf16⟩
  | .hbm, ⟨8, _⟩ => ⟨S1x1024x1024, .f32⟩
  | .hbm, ⟨9, _⟩ => ⟨S1x1024, .f32⟩
  | .hbm, ⟨10, _⟩ => ⟨S1x1024x2048, .f32⟩
  | .hbm, ⟨11, _⟩ => ⟨S1024x1024, .f32⟩
  | .hbm, ⟨12, _⟩ => ⟨S1024x1024, .bf16⟩
  | .hbm, ⟨13, _⟩ => ⟨S16384x1024, .f32⟩
  | .hbm, ⟨14, _⟩ => ⟨S512x1024, .bf16⟩
  | .hbm, ⟨15, _⟩ => ⟨S512x1024, .bf16⟩
  | .hbm, ⟨16, _⟩ => ⟨S1024, .f32⟩
  | .hbm, ⟨17, _⟩ => ⟨S1x1024, .f32⟩
  | .hbm, ⟨18, _⟩ => ⟨S1024x1024, .f32⟩
  | .hbm, ⟨19, _⟩ => ⟨S1024x1024, .bf16⟩
  | .hbm, ⟨20, _⟩ => ⟨S1024x1024, .f32⟩
  | .hbm, ⟨21, _⟩ => ⟨S1024x1024, .bf16⟩
  | .hbm, ⟨22, _⟩ => ⟨S1024, .f32⟩
  | .hbm, ⟨23, _⟩ => ⟨S1x1024, .f32⟩
  | .hbm, ⟨24, _⟩ => ⟨S1024x2048, .f32⟩
  | .hbm, ⟨25, _⟩ => ⟨S1024x2048, .bf16⟩
  | .hbm, ⟨26, _⟩ => ⟨S16384x1024, .f32⟩
  | .hbm, ⟨27, _⟩ => ⟨S1024x16384, .bf16⟩
  | .hbm, ⟨28, _⟩ => ⟨S16384x2048, .bf16⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1024x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S1024x1024, .bf16⟩
  | .local _ .vmem, ⟨15, _⟩ => ⟨S1x1024, .f32⟩
  | .local _ .vmem, ⟨16, _⟩ => ⟨S1024x2048, .bf16⟩
  | .local _ .vmem, ⟨17, _⟩ => ⟨S1024x1024, .f32⟩
  | .local _ .vmem, ⟨18, _⟩ => ⟨S1024x1024, .f32⟩
  | .local _ .vmem, ⟨19, _⟩ => ⟨S1024x1024, .bf16⟩
  | .local _ .vmem, ⟨20, _⟩ => ⟨S1024x1024, .bf16⟩
  | .local _ .vmem, ⟨21, _⟩ => ⟨S1024x2048, .bf16⟩
  | .local _ .vmem, ⟨22, _⟩ => ⟨S1024x2048, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15_0 : Ref sig .tc := ⟨.hbm, 26, rfl⟩
abbrev main_v15_1 : Ref sig .tc := ⟨.hbm, 27, rfl⟩
abbrev main_v15_2 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_8 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference2Ideal.lean ====
abbrev S2x8192x1024 : Shape := ⟨3, ![2, 8192, 1024]⟩
abbrev S16384x512 : Shape := ⟨2, ![16384, 512]⟩
abbrev S1x1024x1024 : Shape := ⟨3, ![1, 1024, 1024]⟩
abbrev S1x1024 : Shape := ⟨2, ![1, 1024]⟩
abbrev S512x1024 : Shape := ⟨2, ![512, 1024]⟩
abbrev S1x1024x2048 : Shape := ⟨3, ![1, 1024, 2048]⟩
abbrev S2x8192x512 : Shape := ⟨3, ![2, 8192, 512]⟩
abbrev S1024x1024 : Shape := ⟨2, ![1024, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x256x4x256 : Shape := ⟨4, ![2, 256, 4, 256]⟩
abbrev S2x8192x4x256 : Shape := ⟨4, ![2, 8192, 4, 256]⟩
abbrev S2x4x8192x256 : Shape := ⟨4, ![2, 4, 8192, 256]⟩
abbrev S2x4x8192 : Shape := ⟨3, ![2, 4, 8192]⟩
abbrev S2x4x8192x1 : Shape := ⟨4, ![2, 4, 8192, 1]⟩
abbrev S2x4x256x8192 : Shape := ⟨4, ![2, 4, 256, 8192]⟩
abbrev S1024x2048 : Shape := ⟨2, ![1024, 2048]⟩
abbrev S2x8192x2048 : Shape := ⟨3, ![2, 8192, 2048]⟩
abbrev S16384x1024 : Shape := ⟨2, ![16384, 1024]⟩
abbrev S1024x16384 : Shape := ⟨2, ![1024, 16384]⟩
abbrev S16384x2048 : Shape := ⟨2, ![16384, 2048]⟩

abbrev nBuf : Space → Nat
  | .hbm => 92
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S16384x512, .bf16⟩
  | .hbm, ⟨2, _⟩ => ⟨S16384x512, .bf16⟩
  | .hbm, ⟨3, _⟩ => ⟨S1x1024x1024, .f32⟩
  | .hbm, ⟨4, _⟩ => ⟨S1x1024, .f32⟩
  | .hbm, ⟨5, _⟩ => ⟨S1x1024x1024, .f32⟩
  | .hbm, ⟨6, _⟩ => ⟨S512x1024, .bf16⟩
  | .hbm, ⟨7, _⟩ => ⟨S512x1024, .bf16⟩
  | .hbm, ⟨8, _⟩ => ⟨S1x1024x1024, .f32⟩
  | .hbm, ⟨9, _⟩ => ⟨S1x1024, .f32⟩
  | .hbm, ⟨10, _⟩ => ⟨S1x1024x2048, .f32⟩
  | .hbm, ⟨11, _⟩ => ⟨S16384x512, .f32⟩
  | .hbm, ⟨12, _⟩ => ⟨S2x8192x512, .f32⟩
  | .hbm, ⟨13, _⟩ => ⟨S16384x512, .f32⟩
  | .hbm, ⟨14, _⟩ => ⟨S2x8192x512, .f32⟩
  | .hbm, ⟨15, _⟩ => ⟨S2x8192x1024, .f32⟩
  | .hbm, ⟨16, _⟩ => ⟨S1024x1024, .f32⟩
  | .hbm, ⟨17, _⟩ => ⟨S2x8192x1024, .f32⟩
  | .hbm, ⟨18, _⟩ => ⟨S2x8192x1024, .f32⟩
  | .hbm, ⟨19, _⟩ => ⟨S1024, .f32⟩
  | .hbm, ⟨20, _⟩ => ⟨S2x8192x1024, .f32⟩
  | .hbm, ⟨21, _⟩ => ⟨S_, .f32⟩
  | .hbm, ⟨22, _⟩ => ⟨S2x8192, .f32⟩
  | .hbm, ⟨23, _⟩ => ⟨S2x8192x1, .f32⟩
  | .hbm, ⟨24, _⟩ => ⟨S_, .f32⟩
  | .hbm, ⟨25, _⟩ => ⟨S2x8192x1, .f32⟩
  | .hbm, ⟨26, _⟩ => ⟨S2x8192x1, .f32⟩
  | .hbm, ⟨27, _⟩ => ⟨S_, .f32⟩
  | .hbm, ⟨28, _⟩ => ⟨S2x8192x1, .f32⟩
  | .hbm, ⟨29, _⟩ => ⟨S2x8192x1, .f32⟩
  | .hbm, ⟨30, _⟩ => ⟨S2x8192x1, .f32⟩
  | .hbm, ⟨31, _⟩ => ⟨S2x8192x1024, .f32⟩
  | .hbm, ⟨32, _⟩ => ⟨S2x8192x1024, .f32⟩
  | .hbm, ⟨33, _⟩ => ⟨S1x1x1024, .f32⟩
  | .hbm, ⟨34, _⟩ => ⟨S2x8192x1024, .f32⟩
  | .hbm, ⟨35, _⟩ => ⟨S2x8192x1024, .f32⟩
  | .hbm, ⟨36, _⟩ => ⟨S512x1024, .f32⟩
  | .hbm, ⟨37, _⟩ => ⟨S2x256x4x256, .f32⟩
  | .hbm, ⟨38, _⟩ => ⟨S512x1024, .f32⟩
  | .hbm, ⟨39, _⟩ => ⟨S2x256x4x256, .f32⟩
  | .hbm, ⟨40, _⟩ => ⟨S1024x1024, .f32⟩
  | .hbm, ⟨41, _⟩ => ⟨S1024x1024, .f32⟩
  | .hbm, ⟨42, _⟩ => ⟨S2x8192x1024, .f32⟩
  | .hbm, ⟨43, _⟩ => ⟨S2x8192x4x256, .f32⟩
  | .hbm, ⟨44, _⟩ => ⟨S2x4x8192x256, .f32⟩
  | .hbm, ⟨45, _⟩ => ⟨S_, .f32⟩
  | .hbm, ⟨46, _⟩ => ⟨S2x4x8192x256, .f32⟩
  | .hbm, ⟨47, _⟩ => ⟨S2x4x8192x256, .f32⟩
  | .hbm, ⟨48, _⟩ => ⟨S_, .f32⟩
  | .hbm, ⟨49, _⟩ => ⟨S2x4x8192, .f32⟩
  | .hbm, ⟨50, _⟩ => ⟨S_, .f32⟩
  | .hbm, ⟨51, _⟩ => ⟨S2x4x8192, .f32⟩
  | .hbm, ⟨52, _⟩ => ⟨S2x4x8192, .f32⟩
  | .hbm, ⟨53, _⟩ => ⟨S2x4x8192x1, .f32⟩
  | .hbm, ⟨54, _⟩ => ⟨S2x4x8192x256, .f32⟩
  | .hbm, ⟨55, _⟩ => ⟨S2x4x8192x256, .f32⟩
  | .hbm, ⟨56, _⟩ => ⟨S2x4x8192x256, .f32⟩
  | .hbm, ⟨57, _⟩ => ⟨S_, .f32⟩
  | .hbm, ⟨58, _⟩ => ⟨S2x4x8192, .f32⟩
  | .hbm, ⟨59, _⟩ => ⟨S2x4x8192x1, .f32⟩
  | .hbm, ⟨60, _⟩ => ⟨S2x4x8192x256, .f32⟩
  | .hbm, ⟨61, _⟩ => ⟨S2x4x8192x256, .f32⟩
  | .hbm, ⟨62, _⟩ => ⟨S2x4x256x8192, .f32⟩
  | .hbm, ⟨63, _⟩ => ⟨S2x8192x4x256, .f32⟩
  | .hbm, ⟨64, _⟩ => ⟨S2x8192x1024, .f32⟩
  | .hbm, ⟨65, _⟩ => ⟨S2x8192x1024, .f32⟩
  | .hbm, ⟨66, _⟩ => ⟨S2x8192x1024, .f32⟩
  | .hbm, ⟨67, _⟩ => ⟨S1024, .f32⟩
  | .hbm, ⟨68, _⟩ => ⟨S2x8192x1024, .f32⟩
  | .hbm, ⟨69, _⟩ => ⟨S_, .f32⟩
  | .hbm, ⟨70, _⟩ => ⟨S2x8192, .f32⟩
  | .hbm, ⟨71, _⟩ => ⟨S2x8192x1, .f32⟩
  | .hbm, ⟨72, _⟩ => ⟨S_, .f32⟩
  | .hbm, ⟨73, _⟩ => ⟨S2x8192x1, .f32⟩
  | .hbm, ⟨74, _⟩ => ⟨S2x8192x1, .f32⟩
  | .hbm, ⟨75, _⟩ => ⟨S_, .f32⟩
  | .hbm, ⟨76, _⟩ => ⟨S2x8192x1, .f32⟩
  | .hbm, ⟨77, _⟩ => ⟨S2x8192x1, .f32⟩
  | .hbm, ⟨78, _⟩ => ⟨S2x8192x1, .f32⟩
  | .hbm, ⟨79, _⟩ => ⟨S2x8192x1024, .f32⟩
  | .hbm, ⟨80, _⟩ => ⟨S2x8192x1024, .f32⟩
  | .hbm, ⟨81, _⟩ => ⟨S1x1x1024, .f32⟩
  | .hbm, ⟨82, _⟩ => ⟨S2x8192x1024, .f32⟩
  | .hbm, ⟨83, _⟩ => ⟨S2x8192x1024, .f32⟩
  | .hbm, ⟨84, _⟩ => ⟨S1024x2048, .f32⟩
  | .hbm, ⟨85, _⟩ => ⟨S2x8192x2048, .f32⟩
  | .hbm, ⟨86, _⟩ => ⟨S16384x1024, .f32⟩
  | .hbm, ⟨87, _⟩ => ⟨S16384x1024, .f32⟩
  | .hbm, ⟨88, _⟩ => ⟨S1024x16384, .f32⟩
  | .hbm, ⟨89, _⟩ => ⟨S1024x16384, .bf16⟩
  | .hbm, ⟨90, _⟩ => ⟨S16384x2048, .f32⟩
  | .hbm, ⟨91, _⟩ => ⟨S16384x2048, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_2 : Ref sig .tc := ⟨.hbm, 45, rfl⟩
abbrev main_v31 : Ref sig .tc := ⟨.hbm, 46, rfl⟩
abbrev main_v32 : Ref sig .tc := ⟨.hbm, 47, rfl⟩
abbrev main_cst_3 : Ref sig .tc := ⟨.hbm, 48, rfl⟩
abbrev main_v33 : Ref sig .tc := ⟨.hbm, 49, rfl⟩
abbrev main_cst_4 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_5 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_6 : Ref sig .tc := ⟨.hbm, 69, rfl⟩
abbrev main_v51 : Ref sig .tc := ⟨.hbm, 70, rfl⟩
abbrev main_v52 : Ref sig .tc := ⟨.hbm, 71, rfl⟩
abbrev main_cst_7 : Ref sig .tc := ⟨.hbm, 72, rfl⟩
abbrev main_v53 : Ref sig .tc := ⟨.hbm, 73, rfl⟩
abbrev main_v54 : Ref sig .tc := ⟨.hbm, 74, rfl⟩
abbrev main_cst_8 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩

abbrev nD : Nat := 1
abbrev τ : Topo := Topo.v7x

variable {F : FTy → Type} [FloatOps F]
-- ==== Kernel3.lean ====
abbrev S2x8192x1024 : Shape := ⟨3, ![2, 8192, 1024]⟩
abbrev S1x1024 : Shape := ⟨2, ![1, 1024]⟩
abbrev S1x1024x2560 : Shape := ⟨3, ![1, 1024, 2560]⟩
abbrev S1x4x512 : Shape := ⟨3, ![1, 4, 512]⟩
abbrev S1x512 : Shape := ⟨2, ![1, 512]⟩
abbrev S1x8x64x64 : Shape := ⟨4, ![1, 8, 64, 64]⟩
abbrev S8x64x64 : Shape := ⟨3, ![8, 64, 64]⟩
abbrev S8x8 : Shape := ⟨2, ![8, 8]⟩
abbrev S_ : Shape := ⟨0, ![]⟩
abbrev S8x1x8x1 : Shape := ⟨4, ![8, 1, 8, 1]⟩
abbrev S8x64x1x64 : Shape := ⟨4, ![8, 64, 1, 64]⟩
abbrev S8x64x8x64 : Shape := ⟨4, ![8, 64, 8, 64]⟩
abbrev S512x512 : Shape := ⟨2, ![512, 512]⟩
abbrev S512x1024 : Shape := ⟨2, ![512, 1024]⟩
abbrev S512 : Shape := ⟨1, ![512]⟩
abbrev S1024 : Shape := ⟨1, ![1024]⟩
abbrev S1024x2560 : Shape := ⟨2, ![1024, 2560]⟩
abbrev S16384x1024 : Shape := ⟨2, ![16384, 1024]⟩
abbrev S1024x1024 : Shape := ⟨2, ![1024, 1024]⟩
abbrev S1024x1536 : Shape := ⟨2, ![1024, 1536]⟩
abbrev S4x512 : Shape := ⟨2, ![4, 512]⟩
abbrev S16384x512 : Shape := ⟨2, ![16384, 512]⟩
abbrev S1024x512 : Shape := ⟨2, ![1024, 512]⟩
abbrev S1032x512 : Shape := ⟨2, ![1032, 512]⟩
abbrev S8x512 : Shape := ⟨2, ![8, 512]⟩
abbrev S1024x1 : Shape := ⟨2, ![1024, 1]⟩

abbrev nBuf : Space → Nat
  | .hbm => 63
  | .vmem => 21
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x2560, .f32⟩
  | .hbm, ⟨3, _⟩ => ⟨S1x4x512, .f32⟩
  | .hbm, ⟨4, _⟩ => ⟨S1x512, .f32⟩
  | .hbm, ⟨5, _⟩ => ⟨S1x8x64x64, .f32⟩
  | .hbm, ⟨6, _⟩ => ⟨S1x512, .f32⟩
  | .hbm, ⟨7, _⟩ => ⟨S1x8x64x64, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S8x64x64, .f32⟩
  | .hbm, ⟨12, _⟩ => ⟨S8x8, .i32⟩
  | .hbm, ⟨13, _⟩ => ⟨S8x8, .i32⟩
  | .hbm, ⟨14, _⟩ => ⟨S_, .i32⟩
  | .hbm, ⟨15, _⟩ => ⟨S8x8, .i32⟩
  | .hbm, ⟨16, _⟩ => ⟨S8x8, .i32⟩
  | .hbm, ⟨17, _⟩ => ⟨S8x8, .i1⟩
  | .hbm, ⟨18, _⟩ => ⟨S8x8, .f32⟩
  | .hbm, ⟨19, _⟩ => ⟨S8x1x8x1, .f32⟩
  | .hbm, ⟨20, _⟩ => ⟨S8x64x1x64, .f32⟩
  | .hbm, ⟨21, _⟩ => ⟨S8x64x8x64, .f32⟩
  | .hbm, ⟨22, _⟩ => ⟨S8x64x8x64, .f32⟩
  | .hbm, ⟨23, _⟩ => ⟨S8x64x8x64, .f32⟩
  | .hbm, ⟨24, _⟩ => ⟨S512x512, .f32⟩
  | .hbm, ⟨25, _⟩ => ⟨S8x64x64, .f32⟩
  | .hbm, ⟨26, _⟩ => ⟨S8x8, .i32⟩
  | .hbm, ⟨27, _⟩ => ⟨S8x8, .i32⟩
  | .hbm, ⟨28, _⟩ => ⟨S_, .i32⟩
  | .hbm, ⟨29, _⟩ => ⟨S8x8, .i32⟩
  | .hbm, ⟨30, _⟩ => ⟨S8x8, .i32⟩
  | .hbm, ⟨31, _⟩ => ⟨S8x8, .i1⟩
  | .hbm, ⟨32, _⟩ => ⟨S8x8, .f32⟩
  | .hbm, ⟨33, _⟩ => ⟨S8x1x8x1, .f32⟩
  | .hbm, ⟨34, _⟩ => ⟨S8x64x1x64, .f32⟩
  | .hbm, ⟨35, _⟩ => ⟨S8x64x8x64, .f32⟩
  | .hbm, ⟨36, _⟩ => ⟨S8x64x8x64, .f32⟩
  | .hbm, ⟨37, _⟩ => ⟨S8x64x8x64, .f32⟩
  | .hbm, ⟨38, _⟩ => ⟨S512x512, .f32⟩
  | .hbm, ⟨39, _⟩ => ⟨S512x1024, .f32⟩
  | .hbm, ⟨40, _⟩ => ⟨S512x1024, .bf16⟩
  | .hbm, ⟨41, _⟩ => ⟨S512, .f32⟩
  | .hbm, ⟨42, _⟩ => ⟨S512, .f32⟩
  | .hbm, ⟨43, _⟩ => ⟨S1024, .f32⟩
  | .hbm, ⟨44, _⟩ => ⟨S1x1024, .f32⟩
  | .hbm, ⟨45, _⟩ => ⟨S1024x2560, .f32⟩
  | .hbm, ⟨46, _⟩ => ⟨S1024x2560, .bf16⟩
  | .hbm, ⟨47, _⟩ => ⟨S16384x1024, .f32⟩
  | .hbm, ⟨48, _⟩ => ⟨S1024, .f32⟩
  | .hbm, ⟨49, _⟩ => ⟨S1x1024, .f32⟩
  | .hbm, ⟨50, _⟩ => ⟨S1024x1024, .bf16⟩
  | .hbm, ⟨51, _⟩ => ⟨S1024x1536, .bf16⟩
  | .hbm, ⟨52, _⟩ => ⟨S4x512, .f32⟩
  | .hbm, ⟨53, _⟩ => ⟨S512, .f32⟩
  | .hbm, ⟨54, _⟩ => ⟨S1x512, .f32⟩
  | .hbm, ⟨55, _⟩ => ⟨S512, .f32⟩
  | .hbm, ⟨56, _⟩ => ⟨S1x512, .f32⟩
  | .hbm, ⟨57, _⟩ => ⟨S512, .f32⟩
  | .hbm, ⟨58, _⟩ => ⟨S1x512, .f32⟩
  | .hbm, ⟨59, _⟩ => ⟨S16384x512, .bf16⟩
  | .hbm, ⟨60, _⟩ => ⟨S16384x512, .bf16⟩
  | .hbm, ⟨61, _⟩ => ⟨S16384x512, .bf16⟩
  | .hbm, ⟨62, _⟩ => ⟨S16384x512, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1536, .bf16⟩
  | .local _ .vmem, ⟨5, _⟩ => ⟨S4x512, .f32⟩
  | .local _ .vmem, ⟨6, _⟩ => ⟨S1x512, .f32⟩
  | .local _ .vmem, ⟨7, _⟩ => ⟨S512x1024, .bf16⟩
  | .local _ .vmem, ⟨8, _⟩ => ⟨S1x1024, .f32⟩
  | .local _ .vmem, ⟨9, _⟩ => ⟨S1x512, .f32⟩
  | .local _ .vmem, ⟨10, _⟩ => ⟨S1x512, .f32⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1032x512, .f32⟩
  | .local _ .vmem, ⟨20, _⟩ => ⟨S8x512, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46_0 : Ref sig .tc := ⟨.hbm, 59, rfl⟩
abbrev main_v46_1 : Ref sig .tc := ⟨.hbm, 60, rfl⟩
abbrev main_v46_2 : Ref sig .tc := ⟨.hbm, 61, rfl⟩
abbrev main_v46_3 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference3Ideal.lean ====
abbrev S2x8192x1024 : Shape := ⟨3, ![2, 8192, 1024]⟩
abbrev S1x1024 : Shape := ⟨2, ![1, 1024]⟩
abbrev S1x1024x2560 : Shape := ⟨3, ![1, 1024, 2560]⟩
abbrev S1x4x512 : Shape := ⟨3, ![1, 4, 512]⟩
abbrev S1x512 : Shape := ⟨2, ![1, 512]⟩
abbrev S1x8x64x64 : Shape := ⟨4, ![1, 8, 64, 64]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x2560 : Shape := ⟨2, ![1024, 2560]⟩
abbrev S2x8192x2560 : Shape := ⟨3, ![2, 8192, 2560]⟩
abbrev S2x8192x512 : Shape := ⟨3, ![2, 8192, 512]⟩
abbrev S16384x512 : Shape := ⟨2, ![16384, 512]⟩

abbrev nBuf : Space → Nat
  | .hbm => 41
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x2560, .f32⟩
  | .hbm, ⟨3, _⟩ => ⟨S1x4x512, .f32⟩
  | .hbm, ⟨4, _⟩ => ⟨S1x512, .f32⟩
  | .hbm, ⟨5, _⟩ => ⟨S1x8x64x64, .f32⟩
  | .hbm, ⟨6, _⟩ => ⟨S1x512, .f32⟩
  | .hbm, ⟨7, _⟩ => ⟨S1x8x64x64, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S1024, .f32⟩
  | .hbm, ⟨12, _⟩ => ⟨S2x8192x1024, .f32⟩
  | .hbm, ⟨13, _⟩ => ⟨S_, .f32⟩
  | .hbm, ⟨14, _⟩ => ⟨S2x8192, .f32⟩
  | .hbm, ⟨15, _⟩ => ⟨S2x8192x1, .f32⟩
  | .hbm, ⟨16, _⟩ => ⟨S_, .f32⟩
  | .hbm, ⟨17, _⟩ => ⟨S2x8192x1, .f32⟩
  | .hbm, ⟨18, _⟩ => ⟨S2x8192x1, .f32⟩
  | .hbm, ⟨19, _⟩ => ⟨S_, .f32⟩
  | .hbm, ⟨20, _⟩ => ⟨S2x8192x1, .f32⟩
  | .hbm, ⟨21, _⟩ => ⟨S2x8192x1, .f32⟩
  | .hbm, ⟨22, _⟩ => ⟨S2x8192x1, .f32⟩
  | .hbm, ⟨23, _⟩ => ⟨S2x8192x1024, .f32⟩
  | .hbm, ⟨24, _⟩ => ⟨S2x8192x1024, .f32⟩
  | .hbm, ⟨25, _⟩ => ⟨S1x1x1024, .f32⟩
  | .hbm, ⟨26, _⟩ => ⟨S2x8192x1024, .f32⟩
  | .hbm, ⟨27, _⟩ => ⟨S2x8192x1024, .f32⟩
  | .hbm, ⟨28, _⟩ => ⟨S1024x2560, .f32⟩
  | .hbm, ⟨29, _⟩ => ⟨S2x8192x2560, .f32⟩
  | .hbm, ⟨30, _⟩ => ⟨S2x8192x512, .f32⟩
  | .hbm, ⟨31, _⟩ => ⟨S2x8192x512, .f32⟩
  | .hbm, ⟨32, _⟩ => ⟨S2x8192x512, .f32⟩
  | .hbm, ⟨33, _⟩ => ⟨S2x8192x512, .f32⟩
  | .hbm, ⟨34, _⟩ => ⟨S2x8192x512, .f32⟩
  | .hbm, ⟨35, _⟩ => ⟨S16384x512, .f32⟩
  | .hbm, ⟨36, _⟩ => ⟨S16384x512, .bf16⟩
  | .hbm, ⟨37, _⟩ => ⟨S16384x512, .f32⟩
  | .hbm, ⟨38, _⟩ => ⟨S16384x512, .bf16⟩
  | .hbm, ⟨39, _⟩ => ⟨S16384x512, .f32⟩
  | .hbm, ⟨40, _⟩ => ⟨S16384x512, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel4.lean ====
abbrev S2x256x1024 : Shape := ⟨3, ![2, 256, 1024]⟩
abbrev S1x1024 : Shape := ⟨2, ![1, 1024]⟩
abbrev S1x1024x2048 : Shape := ⟨3, ![1, 1024, 2048]⟩
abbrev S512x1024 : Shape := ⟨2, ![512, 1024]⟩
abbrev S1024 : Shape := ⟨1, ![1024]⟩
abbrev S1024x2048 : Shape := ⟨2, ![1024, 2048]⟩
abbrev S256x1024 : Shape := ⟨2, ![256, 1024]⟩
abbrev S256 : Shape := ⟨1, ![256]⟩
abbrev S256x1 : Shape := ⟨2, ![256, 1]⟩
abbrev S256x2048 : Shape := ⟨2, ![256, 2048]⟩

abbrev nBuf : Space → Nat
  | .hbm => 10
  | .vmem => 8
  | .smem => 0
  | _ => 0

abbrev bufTy : (tb : Table) → Fin (tcTables nBuf tb) → BufTy
  | .hbm, ⟨0, _⟩ => ⟨S2x256x1024, .f32⟩
  | .hbm, ⟨1, _⟩ => ⟨S1x1024, .f32⟩
  | .hbm, ⟨2, _⟩ => ⟨S1x1024x2048, .f32⟩
  | .hbm, ⟨3, _⟩ => ⟨S512x1024, .f32⟩
  | .hbm, ⟨4, _⟩ => ⟨S1024, .f32⟩
  | .hbm, ⟨5, _⟩ => ⟨S1x1024, .f32⟩
  | .hbm, ⟨6, _⟩ => ⟨S1024x2048, .f32⟩
  | .hbm, ⟨7, _⟩ => ⟨S1024x2048, .bf16⟩
  | .hbm, ⟨8, _⟩ => ⟨S512x1024, .bf16⟩
  | .hbm, ⟨9, _⟩ => ⟨S512x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2048, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S2x256x1024 : Shape := ⟨3, ![2, 256, 1024]⟩
abbrev S1x1024 : Shape := ⟨2, ![1, 1024]⟩
abbrev S1x1024x2048 : Shape := ⟨3, ![1, 1024, 2048]⟩
abbrev S1024 : Shape := ⟨1, ![1024]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S1024x2048 : Shape := ⟨2, ![1024, 2048]⟩
abbrev S2x256x2048 : Shape := ⟨3, ![2, 256, 2048]⟩
abbrev S2x256x2x4x256 : Shape := ⟨5, ![2, 256, 2, 4, 256]⟩
abbrev S2x256x1x4x256 : Shape := ⟨5, ![2, 256, 1, 4, 256]⟩
abbrev S2x256x4x256 : Shape := ⟨4, ![2, 256, 4, 256]⟩
abbrev S512x1024 : Shape := ⟨2, ![512, 1024]⟩

abbrev nBuf : Space → Nat
  | .hbm => 31
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S1x1024, .f32⟩
  | .hbm, ⟨2, _⟩ => ⟨S1x1024x2048, .f32⟩
  | .hbm, ⟨3, _⟩ => ⟨S1024, .f32⟩
  | .hbm, ⟨4, _⟩ => ⟨S2x256x1024, .f32⟩
  | .hbm, ⟨5, _⟩ => ⟨S_, .f32⟩
  | .hbm, ⟨6, _⟩ => ⟨S2x256, .f32⟩
  | .hbm, ⟨7, _⟩ => ⟨S2x256x1, .f32⟩
  | .hbm, ⟨8, _⟩ => ⟨S_, .f32⟩
  | .hbm, ⟨9, _⟩ => ⟨S2x256x1, .f32⟩
  | .hbm, ⟨10, _⟩ => ⟨S2x256x1, .f32⟩
  | .hbm, ⟨11, _⟩ => ⟨S_, .f32⟩
  | .hbm, ⟨12, _⟩ => ⟨S2x256x1, .f32⟩
  | .hbm, ⟨13, _⟩ => ⟨S2x256x1, .f32⟩
  | .hbm, ⟨14, _⟩ => ⟨S2x256x1, .f32⟩
  | .hbm, ⟨15, _⟩ => ⟨S2x256x1024, .f32⟩
  | .hbm, ⟨16, _⟩ => ⟨S2x256x1024, .f32⟩
  | .hbm, ⟨17, _⟩ => ⟨S1x1x1024, .f32⟩
  | .hbm, ⟨18, _⟩ => ⟨S2x256x1024, .f32⟩
  | .hbm, ⟨19, _⟩ => ⟨S2x256x1024, .f32⟩
  | .hbm, ⟨20, _⟩ => ⟨S1024x2048, .f32⟩
  | .hbm, ⟨21, _⟩ => ⟨S2x256x2048, .f32⟩
  | .hbm, ⟨22, _⟩ => ⟨S2x256x2x4x256, .f32⟩
  | .hbm, ⟨23, _⟩ => ⟨S2x256x1x4x256, .f32⟩
  | .hbm, ⟨24, _⟩ => ⟨S2x256x4x256, .f32⟩
  | .hbm, ⟨25, _⟩ => ⟨S2x256x1x4x256, .f32⟩
  | .hbm, ⟨26, _⟩ => ⟨S2x256x4x256, .f32⟩
  | .hbm, ⟨27, _⟩ => ⟨S512x1024, .f32⟩
  | .hbm, ⟨28, _⟩ => ⟨S512x1024, .bf16⟩
  | .hbm, ⟨29, _⟩ => ⟨S512x1024, .f32⟩
  | .hbm, ⟨30, _⟩ => ⟨S512x1024, .bf16⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== Proof.Rows.lean ====
/- Facts about rows of extended reals: the softmax of a row applied to values, written two ways, and the
   root-mean-square normalisation of a row. -/
module

public import Idealize.ShloMosaic.PureOps.Ideal
public import Idealize.ShloMosaic.Lib.Pointwise

@[expose] public section

set_option maxRecDepth 16384

noncomputable section

namespace Cert.Rows

open Idealize.ShloMosaic

/-- The extended real is a real number. -/
def Fine (x : EReal) : Prop := x ≠ ⊥ ∧ x ≠ ⊤

theorem fine_coe (r : ℝ) : Fine (r : EReal) := ⟨EReal.coe_ne_bot r, EReal.coe_ne_top r⟩

theorem Fine.lift {x : EReal} (h : Fine x) : ∃ r : ℝ, x = (r : EReal) :=
  ⟨x.toReal, (EReal.coe_toReal h.2 h.1).symm⟩

theorem Fine.add {x y : EReal} (hx : Fine x) (hy : Fine y) : Fine (x + y) := by
  obtain ⟨a, rfl⟩ := hx.lift
  obtain ⟨b, rfl⟩ := hy.lift
  rw [← EReal.coe_add]
  exact fine_coe _

theorem Fine.mul {x y : EReal} (hx : Fine x) (hy : Fine y) : Fine (x * y) := by
  obtain ⟨a, rfl⟩ := hx.lift
  obtain ⟨b, rfl⟩ := hy.lift
  rw [← EReal.coe_mul]
  exact fine_coe _

theorem fine_zero : Fine (0 : EReal) := fine_coe 0

theorem fine_sum {ι : Type} (s : Finset ι) (f : ι → EReal) (h : ∀ i ∈ s, Fine (f i)) : Fine (∑ i ∈ s, f i) := by
  classical
  induction s using Finset.induction_on with
  | empty => simpa using fine_zero
  | insert a s ha ih =>
    rw [Finset.sum_insert ha]
    exact (h a (Finset.mem_insert_self a s)).add (ih fun i hi => h i (Finset.mem_insert_of_mem hi))

/-- An absolute value below infinity is that of a real number. -/
theorem fine_of_abs_lt (x : EReal) (h : max x (-x) < ⊤) : Fine x := by
  refine ⟨fun e => ?_, fun e => ?_⟩ <;> subst e <;> simp at h

/-! ## Sums times a nonnegative real -/

theorem sum_mul_of_nonneg {ι : Type} (s : Finset ι) (f : ι → EReal) {c : EReal} (h0 : 0 ≤ c) (ht : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 ht, ih]

theorem sum_nonneg' {ι : Type} (s : Finset ι) (f : ι → EReal) (h : ∀ i ∈ s, 0 ≤ f i) : 0 ≤ ∑ i ∈ s, f i :=
  Finset.sum_nonneg h

/-! ## The softmax of a row -/

variable {ι : Type} [Fintype ι]

/-- The greatest entry of a row. -/
def peak (s : ι → EReal) : EReal := Finset.univ.fold max ⊥ s

theorem peak_eq_sup (s : ι → EReal) : peak s = Finset.univ.sup s := rfl

/-- The weight of entry `j`: the exponential of its distance below the peak. -/
def weight (s : ι → EReal) (j : ι) : EReal := Ideal.exp (s j - peak s)

/-- The total weight. -/
def total (s : ι → EReal) : EReal := ∑ j, weight s j

/-- The values averaged by the weights, divided by the total at the end. -/
def avgAfter (s v : ι → EReal) : EReal := (∑ j, weight s j * v j) * Ideal.div 1 (total s)

/-- The values averaged by the weights, each weight divided by the total first. -/
def avgBefore (s v : ι → EReal) : EReal := ∑ j, Ideal.div (weight s j) (total s) * v j

theorem le_peak (s : ι → EReal) (j : ι) : s j ≤ peak s := by
  rw [peak_eq_sup]
  exact Finset.le_sup (Finset.mem_univ j)

theorem exists_peak [Nonempty ι] (s : ι → EReal) : ∃ j, s j = peak s := by
  obtain ⟨j, -, hj⟩ := Finset.exists_mem_eq_sup' (Finset.univ_nonempty (α := ι)) s
  exact ⟨j, by rw [peak_eq_sup, ← Finset.sup'_eq_sup Finset.univ_nonempty, hj]⟩

theorem exp_nonneg (x : EReal) : 0 ≤ Ideal.exp x := by
  induction x using EReal.rec with
  | bot => exact le_rfl
  | top => exact le_top
  | coe r => exact EReal.coe_nonneg.2 (Real.exp_pos r).le

theorem exp_ne_top (x : EReal) (h : x ≠ ⊤) : Ideal.exp x ≠ ⊤ := by
  induction x using EReal.rec with
  | bot => exact EReal.zero_ne_top
  | top => exact absurd rfl h
  | coe r => exact EReal.coe_ne_top _

theorem exp_zero' : Ideal.exp 0 = 1 := by
  show ((Real.exp 0 : ℝ) : EReal) = 1
  simp

theorem peak_fine (s : ι → EReal) (h : ∀ j, s j ≠ ⊤) (j : ι) (hj : s j ≠ ⊥) : Fine (peak s) := by
  haveI : Nonempty ι := ⟨j⟩
  obtain ⟨k, hk⟩ := exists_peak s
  refine ⟨fun e => hj (le_bot_iff.1 (e ▸ le_peak s j)), hk ▸ h k⟩

theorem weight_nonneg (s : ι → EReal) (j : ι) : 0 ≤ weight s j := exp_nonneg _

theorem weight_ne_top (s : ι → EReal) (h : ∀ j, s j ≠ ⊤) (j0 : ι) (hj0 : s j0 ≠ ⊥) (j : ι) : weight s j ≠ ⊤ := by
  refine exp_ne_top _ fun e => ?_
  obtain ⟨p, hp⟩ := (peak_fine s h j0 hj0).lift
  rw [hp] at e
  have hs := h j
  revert e hs
  induction s j using EReal.rec with
  | bot => intro e; simp at e
  | top => intro _ hs; exact absurd rfl hs
  | coe r => intro e; rw [← EReal.coe_sub] at e; exact absurd e (EReal.coe_ne_top _)

/-- Where no score is `+∞` and one is real, the total weight is a real number and at least one. -/
theorem total_spec (s : ι → EReal) (h : ∀ j, s j ≠ ⊤) (j : ι) (hj : s j ≠ ⊥) :
    ∃ r : ℝ, total s = (r : EReal) ∧ 1 ≤ r := by
  haveI : Nonempty ι := ⟨j⟩
  have hf : Fine (total s) := fine_sum _ _ fun k _ =>
    ⟨fun e => absurd (e ▸ weight_nonneg s k) (by simp), weight_ne_top s h j hj k⟩
  obtain ⟨r, hr⟩ := hf.lift
  refine ⟨r, hr, ?_⟩
  obtain ⟨k, hk⟩ := exists_peak s
  obtain ⟨p, hp⟩ := (peak_fine s h j hj).lift
  have h1 : weight s k = 1 := by
    unfold weight
    rw [hk, hp, ← EReal.coe_sub, sub_self, EReal.coe_zero]
    exact exp_zero'
  have h2 : (1 : EReal) ≤ total s := by
    rw [← h1]
    exact Finset.single_le_sum (fun i _ => weight_nonneg s i) (Finset.mem_univ k)
  rw [hr] at h2
  exact_mod_cast h2

/-- Dividing by the total after the sum, or each weight before it: the same average. -/
theorem avgAfter_eq_avgBefore (s v : ι → EReal) (h : ∀ j, s j ≠ ⊤) (j : ι) (hj : s j ≠ ⊥) :
    avgAfter s v = avgBefore s v := by
  obtain ⟨r, hr, h1⟩ := total_spec s h j hj
  have hr0 : r ≠ 0 := by linarith
  have hp : 0 ≤ ((1 / r : ℝ) : EReal) := EReal.coe_nonneg.2 (by positivity)
  unfold avgAfter avgBefore
  rw [hr, Ideal.div_coe hr0, one_mul, sum_mul_of_nonneg _ _ hp (EReal.coe_ne_top _)]
  refine Finset.sum_congr rfl fun k _ => ?_
  rw [Ideal.div_coe hr0, mul_right_comm]

/-- A weight of a score `−∞` is zero when the peak is real. -/
theorem weight_bot (s : ι → EReal) (h : ∀ j, s j ≠ ⊤) (j0 : ι) (hj0 : s j0 ≠ ⊥) (j : ι) (hj : s j = ⊥) :
    weight s j = 0 := by
  obtain ⟨p, hp⟩ := (peak_fine s h j0 hj0).lift
  unfold weight
  rw [hj, hp]
  rw [show ((⊥ : EReal) - (p : EReal)) = ⊥ from by simp]
  rfl

/-! ## A row spread over a longer one -/

variable {κ : Type} [Fintype κ]

/-- A row and a longer row that agrees with it along an embedding and is `−∞` elsewhere have one peak. -/
theorem peak_spread (e : ι → κ) (s : ι → EReal) (t : κ → EReal) (hs : ∀ j, t (e j) = s j)
    (ht : ∀ c, (∀ j, e j ≠ c) → t c = ⊥) : peak t = peak s := by
  rw [peak_eq_sup, peak_eq_sup]
  refine le_antisymm (Finset.sup_le fun c _ => ?_) (Finset.sup_le fun j _ => ?_)
  · by_cases hc : ∃ j, e j = c
    · obtain ⟨j, rfl⟩ := hc
      rw [hs]
      exact Finset.le_sup (Finset.mem_univ j)
    · rw [ht c fun j hj => hc ⟨j, hj⟩]
      exact bot_le
  · rw [← hs]
    exact Finset.le_sup (Finset.mem_univ (e j))

theorem total_spread (e : ι → κ) (he : Function.Injective e) (s : ι → EReal) (t : κ → EReal)
    (hs : ∀ j, t (e j) = s j) (ht : ∀ c, (∀ j, e j ≠ c) → t c = ⊥)
    (h : ∀ j, s j ≠ ⊤) (j0 : ι) (hj0 : s j0 ≠ ⊥) : total t = total s := by
  have hp := peak_spread e s t hs ht
  have hT : ∀ c, t c ≠ ⊤ := fun c => by
    by_cases hc : ∃ j, e j = c
    · obtain ⟨j, rfl⟩ := hc
      rw [hs]; exact h j
    · rw [ht c fun j hj => hc ⟨j, hj⟩]; exact bot_ne_top
  refine (Fintype.sum_of_injective e he _ _ (fun c hc => ?_) fun j => ?_).symm
  · exact weight_bot t hT (e j0) (by rw [hs]; exact hj0) c (ht c fun j hj => hc ⟨j, hj⟩)
  · unfold weight; rw [hs, hp]

/-- and the averages agree if the values do wherever the score is not `−∞`. -/
theorem avgAfter_spread (e : ι → κ) (he : Function.Injective e) (s v : ι → EReal) (t u : κ → EReal)
    (hs : ∀ j, t (e j) = s j) (ht : ∀ c, (∀ j, e j ≠ c) → t c = ⊥) (hv : ∀ j, s j ≠ ⊥ → u (e j) = v j)
    (h : ∀ j, s j ≠ ⊤) (j0 : ι) (hj0 : s j0 ≠ ⊥) : avgAfter t u = avgAfter s v := by
  have hp := peak_spread e s t hs ht
  have hT : ∀ c, t c ≠ ⊤ := fun c => by
    by_cases hc : ∃ j, e j = c
    · obtain ⟨j, rfl⟩ := hc
      rw [hs]; exact h j
    · rw [ht c fun j hj => hc ⟨j, hj⟩]; exact bot_ne_top
  unfold avgAfter
  rw [total_spread e he s t hs ht h j0 hj0]
  congr 1
  refine (Fintype.sum_of_injective e he _ _ (fun c hc => ?_) fun j => ?_).symm
  · rw [weight_bot t hT (e j0) (by rw [hs]; exact hj0) c (ht c fun j hj => hc ⟨j, hj⟩), zero_mul]
  · by_cases hj : s j = ⊥
    · rw [weight_bot s h j0 hj0 j hj, weight_bot t hT (e j0) (by rw [hs]; exact hj0) (e j) (by rw [hs]; exact hj),
        zero_mul, zero_mul]
    · rw [hv j hj]
      congr 1
      unfold weight
      rw [hs, hp]

/-! ## The root-mean-square normalisation of a row -/

/-- The constant under the root. -/
abbrev eps : EReal := Ideal.ofBits .f32 0x358637BD#32

/-- A row over its root mean square (`N` its length as a float), times a gain. -/
def rms (N : EReal) (f g : ι → EReal) (d : ι) : EReal :=
  f d * Ideal.rsqrt (Ideal.div (∑ k, f k * f k) N + eps) * g d

theorem eps_spec : ∃ r : ℝ, eps = (r : EReal) ∧ 0 < r := by
  have h : eps = ((8796093 * ((2 : ℝ) ^ 43)⁻¹ : ℝ) : EReal) := by
    unfold eps
    simp [Ideal.ofBits, Ideal.ieee]
  exact ⟨_, h, by positivity⟩

/-- The pattern of `−∞`. -/
theorem ofBits_neg_inf : Ideal.ofBits .f32 0xFF800000#32 = ⊥ := by simp [Ideal.ofBits, Ideal.ieee]

/-- The pattern of `+∞`. -/
theorem ofBits_pos_inf : Ideal.ofBits .f32 0x7F800000#32 = ⊤ := by simp [Ideal.ofBits, Ideal.ieee]

/-- The printed test "the absolute value is below +∞", read back. -/
theorem fine_of_test (x : EReal)
    (h : BitVec.ofBool (decide ((FloatOps.absf (F := Ideal) (φ := .f32) x : EReal) < Ideal.ofBits .f32 2139095040#32)) = 1#1) :
    Fine x := by
  rw [ofBits_pos_inf] at h
  apply fine_of_abs_lt
  by_contra hn
  have e : decide ((FloatOps.absf (F := Ideal) (φ := .f32) x : EReal) < ⊤) = false := decide_eq_false hn
  rw [e] at h
  exact absurd h (by decide)

theorem and_one (a b : BitVec 1) (h : IntOp.andi a b = 1#1) : a = 1#1 ∧ b = 1#1 := by
  rcases BitVec.eq_zero_or_eq_one a with rfl | rfl <;> rcases BitVec.eq_zero_or_eq_one b with rfl | rfl <;>
    first | exact ⟨rfl, rfl⟩ | exact absurd h (by decide)

theorem mul_self_nonneg' (x : EReal) : 0 ≤ x * x := by
  induction x using EReal.rec with
  | bot => simp
  | top => simp
  | coe r => rw [← EReal.coe_mul]; exact EReal.coe_nonneg.2 (mul_self_nonneg r)

theorem fine_of_mul_self (x : EReal) (h : x * x ≠ ⊤) : Fine x := by
  refine ⟨fun e => ?_, fun e => ?_⟩ <;> subst e <;> simp at h

/-- The normalised row is real wherever the gain is, whatever the row holds: a row with an infinite entry has an
    infinite mean square, and the factor is then zero. -/
theorem rms_fine (n : ℝ) (hn : 0 < n) (f g : ι → EReal) (d : ι) (hg : Fine (g d)) : Fine (rms (n : EReal) f g d) := by
  refine Fine.mul ?_ hg
  obtain ⟨e, he, he0⟩ := eps_spec
  have hq : 0 ≤ ∑ k, f k * f k := Finset.sum_nonneg fun k _ => mul_self_nonneg' _
  by_cases ht : ∑ k, f k * f k = ⊤
  · rw [ht, Ideal.div_coe hn.ne', EReal.top_mul_coe_of_pos (by positivity), he, EReal.top_add_coe]
    rw [show Ideal.rsqrt ⊤ = 0 from rfl, mul_zero]
    exact fine_zero
  · have hd : f d * f d ≠ ⊤ := fun e => ht (top_le_iff.1 (e ▸
      Finset.single_le_sum (f := fun k => f k * f k) (fun k _ => mul_self_nonneg' _) (Finset.mem_univ d)))
    refine Fine.mul (fine_of_mul_self _ hd) ?_
    obtain ⟨r, hr⟩ : ∃ r : ℝ, ∑ k, f k * f k = (r : EReal) :=
      Fine.lift ⟨fun e => absurd (e ▸ hq) (by simp), ht⟩
    rw [hr] at hq ⊢
    have hr0 : 0 ≤ r := EReal.coe_nonneg.1 hq
    rw [Ideal.div_coe hn.ne', he, ← EReal.coe_mul, ← EReal.coe_add]
    have hp : 0 < r * (1 / n) + e := by positivity
    show Fine (if r * (1 / n) + e < 0 then ⊥ else if r * (1 / n) + e = 0 then ⊤ else _)
    rw [if_neg (by linarith), if_neg hp.ne']
    exact fine_coe _

end Cert.Rows

end
-- ==== Proof.AttKernel.lean ====
/- The attention call's body at an index: its four stores are one tile's text, read once. -/
module

public import proofs.«01_k».proof.Proof.Gen.KernelIdeal.Value
public import proofs.«01_k».proof.Proof.Rows
public import Idealize.ShloMosaic.Lib.Pipeline.ValueKit
public import Idealize.ShloMosaic.Lib.Pointwise

@[expose] public section

set_option maxRecDepth 16384

noncomputable section

namespace Cert.AttKernel

open Idealize.ShloMosaic Cert.KernelIdeal Cert.KernelIdeal.Gen Cert.Rows

/-- The mask of tile `t` of a step, from the step's number. -/
def mask (i : grid0.Coords) (t : BitVec 32) : IVec S512x768 1 :=
  k0_pay18 k0_pay2 (Scalar.addi (Scalar.muli 4#32 (BitVec.ofNat 32 (i 1).val)) t)

/-- A pair of heads. -/
def pair (vld : IVec S512x768 1) (q k0 k1 k2 v0 v1 v2 : Vec Ideal S256x128 .bf16) (b : Vec Ideal S2x256x768 .f32) :
    FVec Ideal S256x128 .f32 :=
  k0_pay6 k0_pay3 vld (k0_pay5 q) k0 k1 k2 v0 v1 v2 b

/-- The four pairs of a tile, side by side. -/
def beside (y0 y1 y2 y3 : FVec Ideal S256x128 .f32) : FVec Ideal S256x512 .f32 :=
  concatenate S256x512 1 [⟨S256x128, y0⟩, ⟨S256x128, y1⟩, ⟨S256x128, y2⟩, ⟨S256x128, y3⟩]
    concatenates_S256x128_S256x128_S256x128_S256x128_S256x512_d1

/-- The norm of a tile's rows. -/
def normed (y : FVec Ideal S256x512 .f32) (g : Vec Ideal S1x512 .f32) : FVec Ideal S256x512 .bf16 :=
  k0_pay38 y (k0_pay35 g)
    (shapeCast S256x1 (multiReduction .add [1] S256 (mulf y y) 0x00000000#32 reduces_S256x512_S256 (.inl rfl) rfl)
      shapeCasts_S256_S256x1)
    k0_pay37

/-- The scale of a score. -/
def eighth : EReal := ((1 / 8 : ℝ) : EReal)

theorem eighth_bf16 : Ideal.ofBits FTy.bf16 15872#16 = eighth := by
  unfold eighth
  simp [Ideal.ofBits, Ideal.ieee]
  rw [← EReal.coe_mul]
  norm_num

theorem eighth_nonneg : 0 ≤ eighth := EReal.coe_nonneg.mpr (by norm_num)

theorem eighth_ne_top : eighth ≠ ⊤ := EReal.coe_ne_top _

theorem sel_low {α : Type} (d : Fin 128) (x y : α) :
    Scalar.select (IntOp.cmpi CmpIPredicate.slt (BitVec.ofNat 32 d.val) 64#32) x y = if d.val < 64 then x else y := by
  have h : ∀ d : Fin 128, IntOp.cmpi CmpIPredicate.slt (BitVec.ofNat 32 d.val) 64#32 = if d.val < 64 then 1#1 else 0#1 := by
    decide +kernel
  rw [h]
  by_cases h' : d.val < 64
  · rw [if_pos h', if_pos h']; rfl
  · rw [if_neg h', if_neg h']; rfl

/-- Row `c` of three blocks of rows. -/
def three (k0 k1 k2 : Vec Ideal S256x128 .bf16) (c : Fin 768) (d : Fin 128) : EReal :=
  if h : c.val < 256 then k0 (ix2 ⟨c.val, h⟩ d)
  else if h' : c.val - 256 < 256 then k1 (ix2 ⟨c.val - 256, h'⟩ d) else k2 (ix2 ⟨c.val - 256 - 256, by omega⟩ d)

section Pair

variable (vld : IVec S512x768 1) (q k0 k1 k2 v0 v1 v2 : Vec Ideal S256x128 .bf16) (b : Vec Ideal S2x256x768 .f32)

/-- The scores of the pair's first head. -/
def low (r : Fin 256) (c : Fin 768) : EReal :=
  Scalar.select (vld (ix2 ⟨r.val, by omega⟩ c))
    (∑ l : Fin 128, Scalar.select (IntOp.cmpi CmpIPredicate.slt (BitVec.ofNat 32 l.val) 64#32)
      (q (ix2 r l) * Ideal.ofBits FTy.bf16 15872#16 * three k0 k1 k2 c l) 0 + b (ix3 0 r c)) ⊥

/-- The scores of its second head. -/
def high (r : Fin 256) (c : Fin 768) : EReal :=
  Scalar.select (vld (ix2 ⟨256 + r.val, by omega⟩ c))
    (∑ l : Fin 128, Scalar.select (IntOp.cmpi CmpIPredicate.slt (BitVec.ofNat 32 l.val) 64#32) 0
      (q (ix2 r l) * Ideal.ofBits FTy.bf16 15872#16 * three k0 k1 k2 c l) + b (ix3 1 r c)) ⊥

theorem named_mask : (Named.named (F := Ideal) (φ := .f32) κ "mask" 4048155338#32 : EReal) = ⊥ :=
  IdealRules.named_const.ideal_named_scalar _ _ _ _ rfl

theorem pair_raw (r : Fin 256) (d : Fin 128) : pair vld q k0 k1 k2 v0 v1 v2 b (ix2 r d) =
    Scalar.select (IntOp.cmpi CmpIPredicate.slt (BitVec.ofNat 32 d.val) 64#32)
      (avgAfter (low vld q k0 k1 k2 b r) (fun c => three v0 v1 v2 c d))
      (avgAfter (high vld q k0 k1 k2 b r) (fun c => three v0 v1 v2 c d)) := by
  pointwise [pair, k0_pay6, k0_pay3, k0_pay5]
  simp only [ofBits_neg_inf, named_mask, Nat.add_mod_left, Nat.mod_eq_of_lt r.isLt, Nat.div_eq_of_lt r.isLt,
    show (256 + r.val) / 256 = 1 by omega]
  rfl

/-- The lanes of one head. -/
theorem sum_low (f : Fin 128 → EReal) :
    (∑ l : Fin 128, Scalar.select (IntOp.cmpi CmpIPredicate.slt (BitVec.ofNat 32 l.val) 64#32) (f l) 0)
      = ∑ l : Fin 64, f ⟨l.val, by omega⟩ := by
  refine (Fin.sum_univ_add (a := 64) (b := 64) _).trans ?_
  refine (congrArg₂ (· + ·)
    (Finset.sum_congr rfl fun l _ => (sel_low (Fin.castAdd 64 l) (f (Fin.castAdd 64 l)) 0).trans (if_pos l.isLt))
    (Finset.sum_congr rfl fun l _ => (sel_low (Fin.natAdd 64 l) (f (Fin.natAdd 64 l)) 0).trans
      (if_neg (show ¬ (64 + l.val < 64) by omega)))).trans ?_
  rw [Finset.sum_const_zero, add_zero]
  rfl

theorem sum_high (f : Fin 128 → EReal) :
    (∑ l : Fin 128, Scalar.select (IntOp.cmpi CmpIPredicate.slt (BitVec.ofNat 32 l.val) 64#32) 0 (f l))
      = ∑ l : Fin 64, f ⟨64 + l.val, by omega⟩ := by
  refine (Fin.sum_univ_add (a := 64) (b := 64) _).trans ?_
  refine (congrArg₂ (· + ·)
    (Finset.sum_congr rfl fun l _ => (sel_low (Fin.castAdd 64 l) 0 (f (Fin.castAdd 64 l))).trans (if_pos l.isLt))
    (Finset.sum_congr rfl fun l _ => (sel_low (Fin.natAdd 64 l) 0 (f (Fin.natAdd 64 l))).trans
      (if_neg (show ¬ (64 + l.val < 64) by omega)))).trans ?_
  rw [Finset.sum_const_zero, zero_add]
  rfl

/-- The scale commutes out of a score. -/
theorem scaled (f g : Fin 64 → EReal) : (∑ l, f l * Ideal.ofBits FTy.bf16 15872#16 * g l) = (∑ l, f l * g l) * eighth := by
  rw [eighth_bf16, sum_mul_of_nonneg _ _ eighth_nonneg eighth_ne_top]
  exact Finset.sum_congr rfl fun l _ => mul_right_comm _ _ _

/-- A head of a pair: its row is the average of the value rows, weighted after the sum. -/
theorem pair_apply (r : Fin 256) (hd : Fin 2) (e : Fin 64) :
    pair vld q k0 k1 k2 v0 v1 v2 b (ix2 r ⟨64 * hd.val + e.val, by omega⟩) =
      avgAfter
        (fun c => Scalar.select (vld (ix2 ⟨256 * hd.val + r.val, by omega⟩ c))
          ((∑ l : Fin 64, q (ix2 r ⟨64 * hd.val + l.val, by omega⟩) * three k0 k1 k2 c ⟨64 * hd.val + l.val, by omega⟩) * eighth
            + b (ix3 hd r c)) ⊥)
        (fun c => three v0 v1 v2 c ⟨64 * hd.val + e.val, by omega⟩) := by
  rw [pair_raw, sel_low]
  match hd with
  | ⟨0, _⟩ =>
    rw [if_pos (by dsimp only; omega)]
    refine congrArg (fun s => avgAfter s _) (funext fun c => ?_)
    unfold low
    rw [sum_low, scaled]
    simp only [Nat.mul_zero, Nat.zero_add]
    rfl
  | ⟨1, _⟩ =>
    rw [if_neg (by dsimp only; omega)]
    refine congrArg (fun s => avgAfter s _) (funext fun c => ?_)
    unfold high
    rw [sum_high, scaled]
    rfl

end Pair

/-- Which keys a row sees: those at or after the row's first. -/
theorem mask_apply (i : grid0.Coords) (t : Fin 4) (r : Fin 512) (c : Fin 768) :
    mask i (BitVec.ofNat 32 t.val) (ix2 r c) = if 2 ≤ c.val / 256 + (4 * (i 1).val + t.val) then 1#1 else 0#1 := by
  have e : mask i (BitVec.ofNat 32 t.val) (ix2 r c) = IntOp.cmpi .sge
      (IntOp.addi (k0_pay2 (ix2 r c)) (Scalar.addi (Scalar.muli 4#32 (BitVec.ofNat 32 (i 1).val)) (BitVec.ofNat 32 t.val))) 2#32 := by
    pointwise [mask, k0_pay18]
  have h2 : k0_pay2 (ix2 r c) = BitVec.ofNat 32 (c.val / 256) := by
    pointwise [k0_pay2]
    clear e
    revert c
    decide +kernel
  have h3 : ∀ (k : Fin 3) (s : Fin 8) (t : Fin 4), IntOp.cmpi .sge
      (IntOp.addi (BitVec.ofNat 32 k.val) (Scalar.addi (Scalar.muli 4#32 (BitVec.ofNat 32 s.val)) (BitVec.ofNat 32 t.val))) 2#32
      = if 2 ≤ k.val + (4 * s.val + t.val) then 1#1 else 0#1 := by decide +kernel
  rw [e, h2]
  exact h3 ⟨c.val / 256, by omega⟩ ⟨(i 1).val, (i 1).isLt⟩ t

theorem three_eq (k0 k1 k2 : Vec Ideal S256x128 .bf16) (G : Fin 768 → Fin 128 → EReal)
    (h0 : ∀ (r : Fin 256) d, k0 (ix2 r d) = G ⟨r.val, by omega⟩ d) (h1 : ∀ (r : Fin 256) d, k1 (ix2 r d) = G ⟨256 + r.val, by omega⟩ d)
    (h2 : ∀ (r : Fin 256) d, k2 (ix2 r d) = G ⟨512 + r.val, by omega⟩ d) (c : Fin 768) (d : Fin 128) : three k0 k1 k2 c d = G c d := by
  unfold three
  by_cases h : c.val < 256
  · rw [dif_pos h]
    exact h0 ⟨c.val, h⟩ d
  rw [dif_neg h]
  by_cases h' : c.val - 256 < 256
  · rw [dif_pos h', h1 ⟨c.val - 256, h'⟩ d]
    exact congrArg (fun z => G z d) (Fin.ext (by dsimp only; omega))
  · rw [dif_neg h', h2 ⟨c.val - 256 - 256, by omega⟩ d]
    exact congrArg (fun z => G z d) (Fin.ext (by dsimp only; omega))

/-! ## The array a call computes -/

/-- The key a query row's candidate `c` is: three blocks of 256 end with the row's own. -/
def keyRow (R : Fin 16384) (c : Fin 768) : Fin 16384 :=
  ⟨8192 * (R.val / 8192) + 256 * (R.val % 8192 / 256 + c.val / 256 - 2) + c.val % 256, by omega⟩

/-- Row `r` of step `t`'s block. -/
def stepRow (t : Fin 16) (r : Fin 1024) : Fin 16384 := ⟨1024 * t.val + r.val, by omega⟩

/-- Row `r` of window `j` of the keys at step `t`. -/
def winRow (t : Fin 16) (j : Fin 6) (r : Fin 256) : Fin 16384 :=
  ⟨8192 * (t.val / 8) + 256 * (4 * (t.val % 8) + j.val - 2) + r.val, by omega⟩

variable (Q K W : FVec Ideal S16384x512 .bf16) (B : Fin 8 → Fin 256 → Fin 768 → EReal) (g : Fin 512 → EReal)

/-- A row's score with its candidate `c`. -/
def score (R : Fin 16384) (h : Fin 8) (c : Fin 768) : EReal :=
  if 2 ≤ c.val / 256 + R.val % 8192 / 256 then
    (∑ l : Fin 64, Q (ix2 R ⟨64 * h.val + l.val, by omega⟩) * K (ix2 (keyRow R c) ⟨64 * h.val + l.val, by omega⟩)) * eighth
      + B h ⟨R.val % 256, by omega⟩ c
  else ⊥

/-- A row's output before the norm. -/
def heads (R : Fin 16384) (d : Fin 512) : EReal :=
  avgAfter (score Q K B R ⟨d.val / 64, by omega⟩) (fun c => W (ix2 (keyRow R c) d))

/-- The array row that row `r` of tile `u` of step `t` is. -/
def tileRow (t : Fin 16) (u : Fin 4) (r : Fin 256) : Fin 16384 := ⟨1024 * t.val + (256 * u.val + r.val), by omega⟩

theorem pair_block (i : grid0.Coords) (t : Fin 16) (hi : (i 1).val = t.val % 8) (u p : Fin 4)
    (q k0 k1 k2 v0 v1 v2 : Vec Ideal S256x128 .bf16) (b : Vec Ideal S2x256x768 .f32)
    (hq : ∀ (r : Fin 256) (d : Fin 128), q (ix2 r d) = Q (ix2 (tileRow t u r) ⟨128 * p.val + d.val, by omega⟩))
    (hk0 : ∀ (r : Fin 256) (d : Fin 128), k0 (ix2 r d) = K (ix2 (winRow t ⟨u.val, by omega⟩ r) ⟨128 * p.val + d.val, by omega⟩))
    (hk1 : ∀ (r : Fin 256) (d : Fin 128), k1 (ix2 r d) = K (ix2 (winRow t ⟨u.val + 1, by omega⟩ r) ⟨128 * p.val + d.val, by omega⟩))
    (hk2 : ∀ (r : Fin 256) (d : Fin 128), k2 (ix2 r d) = K (ix2 (winRow t ⟨u.val + 2, by omega⟩ r) ⟨128 * p.val + d.val, by omega⟩))
    (hv0 : ∀ (r : Fin 256) (d : Fin 128), v0 (ix2 r d) = W (ix2 (winRow t ⟨u.val, by omega⟩ r) ⟨128 * p.val + d.val, by omega⟩))
    (hv1 : ∀ (r : Fin 256) (d : Fin 128), v1 (ix2 r d) = W (ix2 (winRow t ⟨u.val + 1, by omega⟩ r) ⟨128 * p.val + d.val, by omega⟩))
    (hv2 : ∀ (r : Fin 256) (d : Fin 128), v2 (ix2 r d) = W (ix2 (winRow t ⟨u.val + 2, by omega⟩ r) ⟨128 * p.val + d.val, by omega⟩))
    (hb : ∀ (hd : Fin 2) (r : Fin 256) (c : Fin 768), b (ix3 hd r c) = B ⟨2 * p.val + hd.val, by omega⟩ r c)
    (r : Fin 256) (d : Fin 128) :
    pair (mask i (BitVec.ofNat 32 u.val)) q k0 k1 k2 v0 v1 v2 b (ix2 r d)
      = heads Q K W B (tileRow t u r) ⟨128 * p.val + d.val, by omega⟩ := by
  have hK : ∀ (A : FVec Ideal S16384x512 .bf16) (a0 a1 a2 : Vec Ideal S256x128 .bf16)
      (_ : ∀ (r : Fin 256) (d : Fin 128), a0 (ix2 r d) = A (ix2 (winRow t ⟨u.val, by omega⟩ r) ⟨128 * p.val + d.val, by omega⟩))
      (_ : ∀ (r : Fin 256) (d : Fin 128), a1 (ix2 r d) = A (ix2 (winRow t ⟨u.val + 1, by omega⟩ r) ⟨128 * p.val + d.val, by omega⟩))
      (_ : ∀ (r : Fin 256) (d : Fin 128), a2 (ix2 r d) = A (ix2 (winRow t ⟨u.val + 2, by omega⟩ r) ⟨128 * p.val + d.val, by omega⟩))
      (c : Fin 768) (d : Fin 128),
      three a0 a1 a2 c d = A (ix2 (keyRow (tileRow t u r) c) ⟨128 * p.val + d.val, by omega⟩) := by
    intro A a0 a1 a2 h0 h1 h2 c d
    refine three_eq a0 a1 a2 (fun c d => A (ix2 (keyRow (tileRow t u r) c) ⟨128 * p.val + d.val, by omega⟩)) ?_ ?_ ?_ c d
    · intro s d
      rw [h0]
      exact congrArg (fun z => A (ix2 z _)) (Fin.ext (by simp only [winRow, keyRow, tileRow]; omega))
    · intro s d
      rw [h1]
      exact congrArg (fun z => A (ix2 z _)) (Fin.ext (by simp only [winRow, keyRow, tileRow]; omega))
    · intro s d
      rw [h2]
      exact congrArg (fun z => A (ix2 z _)) (Fin.ext (by simp only [winRow, keyRow, tileRow]; omega))
  obtain ⟨hd, e, rfl⟩ : ∃ (hd : Fin 2) (e : Fin 64), d = ⟨64 * hd.val + e.val, by omega⟩ :=
    ⟨⟨d.val / 64, by omega⟩, ⟨d.val % 64, by omega⟩, Fin.ext (by dsimp only; omega)⟩
  rw [pair_apply]
  have e1 : (tileRow t u r).val % 8192 / 256 = 4 * (i 1).val + u.val := by rw [hi]; simp only [tileRow]; omega
  have e2 : (⟨(tileRow t u r).val % 256, by omega⟩ : Fin 256) = r := Fin.ext (by simp only [tileRow]; omega)
  have e3 : (128 * p.val + (64 * hd.val + e.val)) / 64 = 2 * p.val + hd.val := by omega
  unfold heads
  refine congrArg₂ avgAfter (funext fun c => ?_) (funext fun c => hK W v0 v1 v2 hv0 hv1 hv2 c _)
  rw [mask_apply]
  unfold score
  rw [e1, e2, hb]
  simp only [e3]
  by_cases hc : 2 ≤ c.val / 256 + (4 * (i 1).val + u.val)
  · rw [if_pos hc, if_pos hc]
    refine (show Scalar.select (1#1) _ _ = _ from rfl).trans (congrArg (fun z : EReal => z * eighth + _) (Finset.sum_congr rfl fun l _ => ?_))
    rw [hq, hK K k0 k1 k2 hk0 hk1 hk2 c]
    refine congrArg₂ (· * ·) (congrArg (fun z => Q (ix2 _ z)) (Fin.ext ?_)) (congrArg (fun z => K (ix2 _ z)) (Fin.ext ?_)) <;>
      (dsimp only; omega)
  · rw [if_neg hc, if_neg hc]
    rfl

theorem beside_apply (y0 y1 y2 y3 : FVec Ideal S256x128 .f32) (r : Fin 256) (f : Fin 512 → EReal)
    (h0 : ∀ d : Fin 128, y0 (ix2 r d) = f ⟨128 * 0 + d.val, by omega⟩) (h1 : ∀ d : Fin 128, y1 (ix2 r d) = f ⟨128 * 1 + d.val, by omega⟩)
    (h2 : ∀ d : Fin 128, y2 (ix2 r d) = f ⟨128 * 2 + d.val, by omega⟩) (h3 : ∀ d : Fin 128, y3 (ix2 r d) = f ⟨128 * 3 + d.val, by omega⟩)
    (d : Fin 512) : beside y0 y1 y2 y3 (ix2 r d) = f d := by
  pointwise [beside]
  by_cases a0 : d.val < 128
  · rw [dif_pos a0, h0]
    exact congrArg f (Fin.ext (by dsimp only; omega))
  rw [dif_neg a0]
  by_cases a1 : d.val - 128 < 128
  · rw [dif_pos a1, h1]
    exact congrArg f (Fin.ext (by dsimp only; omega))
  rw [dif_neg a1]
  by_cases a2 : d.val - 128 - 128 < 128
  · rw [dif_pos a2, h2]
    exact congrArg f (Fin.ext (by dsimp only; omega))
  rw [dif_neg a2, h3]
  exact congrArg f (Fin.ext (by dsimp only; omega))

/-- The width of a row, as a float. -/
abbrev width : EReal := Ideal.ofBits .f32 1140850688#32

theorem normed_apply (y : FVec Ideal S256x512 .f32) (x : Vec Ideal S1x512 .f32) (r : Fin 256) (f : Fin 512 → EReal)
    (hy : ∀ d, y (ix2 r d) = f d) (c : Fin 512) : normed y x (ix2 r c) = rms width f (fun d => x (ix2 0 d)) c := by
  have e : normed y x (ix2 r c) = rms width (fun d => y (ix2 r d)) (fun d => x (ix2 0 d)) c := by
    pointwise [normed, k0_pay38, k0_pay35, k0_pay37]
    rfl
  rw [e]
  exact congrArg (fun f => rms width f _ c) (funext hy)

/-- The four stores, read at an index. -/
theorem stores_apply (w0 w1 w2 w3 : FVec Ideal S256x512 .bf16) (f : Fin 1024 → Fin 512 → EReal)
    (h0 : ∀ (r : Fin 256) d, w0 (ix2 r d) = f ⟨256 * 0 + r.val, by omega⟩ d) (h1 : ∀ (r : Fin 256) d, w1 (ix2 r d) = f ⟨256 * 1 + r.val, by omega⟩ d)
    (h2 : ∀ (r : Fin 256) d, w2 (ix2 r d) = f ⟨256 * 2 + r.val, by omega⟩ d) (h3 : ∀ (r : Fin 256) d, w3 (ix2 r d) = f ⟨256 * 3 + r.val, by omega⟩ d)
    (R : Fin 1024) (C : Fin 512) :
    View.canon (Val := Elt Ideal) (e := .bf16) [⟨r0_28, w3⟩, ⟨r0_23, w2⟩, ⟨r0_18, w1⟩, ⟨r0_13, w0⟩] (ix2 R C) = f R C := by
  refine View.canon_eq_of_allAt _ _ _ (cover0_15 (F := Ideal) w3 w2 w1 w0 (ix2 R C)) ?_
  refine View.allAt_cons_unit _ _ _ _ _ ?_ (View.allAt_cons_unit _ _ _ _ _ ?_ (View.allAt_cons_unit _ _ _ _ _ ?_
    (View.allAt_cons_unit _ _ _ _ _ ?_ (View.allAt_nil _ _))))
  all_goals
    intro x hx
    have a0 := hx 0
    have a1 := hx 1
    revert a0 a1
    clear hx
    idx_vars x
    intro a0 a1
  · rw [h3]
    exact congrArg₂ f (Fin.ext a0.symm) (Fin.ext (by rw [a1]; exact (Nat.zero_add _).symm))
  · rw [h2]
    exact congrArg₂ f (Fin.ext a0.symm) (Fin.ext (by rw [a1]; exact (Nat.zero_add _).symm))
  · rw [h1]
    exact congrArg₂ f (Fin.ext a0.symm) (Fin.ext (by rw [a1]; exact (Nat.zero_add _).symm))
  · rw [h0]
    exact congrArg₂ f (Fin.ext a0.symm) (Fin.ext (by rw [a1]; exact (Nat.zero_add _).symm))

variable (i : grid0.Coords) (x0 : Vec Ideal S1024x512 .bf16) (x1 x2 x3 x4 x5 x6 x7 x8 x9 x10 x11 x12 : Vec Ideal S256x512 .bf16)
  (x13 : Vec Ideal S8x256x768 .f32) (x14 : Vec Ideal S1x512 .f32)

theorem out_eq : out0_15 i x0 x1 x2 x3 x4 x5 x6 x7 x8 x9 x10 x11 x12 x13 x14 =
  View.canon [
    ⟨r0_28, normed (beside
      (pair (mask i 3#32) (View.ld x0 r0_24) (View.ld x4 r0_1) (View.ld x5 r0_1) (View.ld x6 r0_1) (View.ld x10 r0_1) (View.ld x11 r0_1) (View.ld x12 r0_1) (View.ld x13 r0_2))
      (pair (mask i 3#32) (View.ld x0 r0_25) (View.ld x4 r0_4) (View.ld x5 r0_4) (View.ld x6 r0_4) (View.ld x10 r0_4) (View.ld x11 r0_4) (View.ld x12 r0_4) (View.ld x13 r0_5))
      (pair (mask i 3#32) (View.ld x0 r0_26) (View.ld x4 r0_7) (View.ld x5 r0_7) (View.ld x6 r0_7) (View.ld x10 r0_7) (View.ld x11 r0_7) (View.ld x12 r0_7) (View.ld x13 r0_8))
      (pair (mask i 3#32) (View.ld x0 r0_27) (View.ld x4 r0_10) (View.ld x5 r0_10) (View.ld x6 r0_10) (View.ld x10 r0_10) (View.ld x11 r0_10) (View.ld x12 r0_10) (View.ld x13 r0_11))) (View.ld x14 r0_12)⟩,
    ⟨r0_23, normed (beside
      (pair (mask i 2#32) (View.ld x0 r0_19) (View.ld x3 r0_1) (View.ld x4 r0_1) (View.ld x5 r0_1) (View.ld x9 r0_1) (View.ld x10 r0_1) (View.ld x11 r0_1) (View.ld x13 r0_2))
      (pair (mask i 2#32) (View.ld x0 r0_20) (View.ld x3 r0_4) (View.ld x4 r0_4) (View.ld x5 r0_4) (View.ld x9 r0_4) (View.ld x10 r0_4) (View.ld x11 r0_4) (View.ld x13 r0_5))
      (pair (mask i 2#32) (View.ld x0 r0_21) (View.ld x3 r0_7) (View.ld x4 r0_7) (View.ld x5 r0_7) (View.ld x9 r0_7) (View.ld x10 r0_7) (View.ld x11 r0_7) (View.ld x13 r0_8))
      (pair (mask i 2#32) (View.ld x0 r0_22) (View.ld x3 r0_10) (View.ld x4 r0_10) (View.ld x5 r0_10) (View.ld x9 r0_10) (View.ld x10 r0_10) (View.ld x11 r0_10) (View.ld x13 r0_11))) (View.ld x14 r0_12)⟩,
    ⟨r0_18, normed (beside
      (pair (mask i 1#32) (View.ld x0 r0_14) (View.ld x2 r0_1) (View.ld x3 r0_1) (View.ld x4 r0_1) (View.ld x8 r0_1) (View.ld x9 r0_1) (View.ld x10 r0_1) (View.ld x13 r0_2))
      (pair (mask i 1#32) (View.ld x0 r0_15) (View.ld x2 r0_4) (View.ld x3 r0_4) (View.ld x4 r0_4) (View.ld x8 r0_4) (View.ld x9 r0_4) (View.ld x10 r0_4) (View.ld x13 r0_5))
      (pair (mask i 1#32) (View.ld x0 r0_16) (View.ld x2 r0_7) (View.ld x3 r0_7) (View.ld x4 r0_7) (View.ld x8 r0_7) (View.ld x9 r0_7) (View.ld x10 r0_7) (View.ld x13 r0_8))
      (pair (mask i 1#32) (View.ld x0 r0_17) (View.ld x2 r0_10) (View.ld x3 r0_10) (View.ld x4 r0_10) (View.ld x8 r0_10) (View.ld x9 r0_10) (View.ld x10 r0_10) (View.ld x13 r0_11))) (View.ld x14 r0_12)⟩,
    ⟨r0_13, normed (beside
      (pair (mask i 0#32) (View.ld x0 r0_0) (View.ld x1 r0_1) (View.ld x2 r0_1) (View.ld x3 r0_1) (View.ld x7 r0_1) (View.ld x8 r0_1) (View.ld x9 r0_1) (View.ld x13 r0_2))
      (pair (mask i 0#32) (View.ld x0 r0_3) (View.ld x1 r0_4) (View.ld x2 r0_4) (View.ld x3 r0_4) (View.ld x7 r0_4) (View.ld x8 r0_4) (View.ld x9 r0_4) (View.ld x13 r0_5))
      (pair (mask i 0#32) (View.ld x0 r0_6) (View.ld x1 r0_7) (View.ld x2 r0_7) (View.ld x3 r0_7) (View.ld x7 r0_7) (View.ld x8 r0_7) (View.ld x9 r0_7) (View.ld x13 r0_8))
      (pair (mask i 0#32) (View.ld x0 r0_9) (View.ld x1 r0_10) (View.ld x2 r0_10) (View.ld x3 r0_10) (View.ld x7 r0_10) (View.ld x8 r0_10) (View.ld x9 r0_10) (View.ld x13 r0_11))) (View.ld x14 r0_12)⟩] := rfl

theorem ld_rows (x : Vec Ideal S1024x512 .bf16) (a o : ℕ) (ha : a + 256 ≤ 1024) (ho : o + 128 ≤ 512) (inb) (r : Fin 256) (d : Fin 128) :
    View.ld x (Rect.unit (s := S1024x512) ![a, o] S256x128.size inb) (ix2 r d) = x (ix2 ⟨a + r.val, by omega⟩ ⟨o + d.val, by omega⟩) :=
  View.ld_unit_apply_of x _ _ inb (ix2 r d) (ix2 ⟨a + r.val, by omega⟩ ⟨o + d.val, by omega⟩) fun a => by
    match a with
    | ⟨0, _⟩ => rfl
    | ⟨1, _⟩ => rfl

theorem ld_cols (x : Vec Ideal S256x512 .bf16) (o : ℕ) (ho : o + 128 ≤ 512) (inb) (r : Fin 256) (d : Fin 128) :
    View.ld x (Rect.unit (s := S256x512) ![0, o] S256x128.size inb) (ix2 r d) = x (ix2 r ⟨o + d.val, by omega⟩) :=
  View.ld_unit_apply_of x _ _ inb (ix2 r d) (ix2 r ⟨o + d.val, by omega⟩) fun a => by
    match a with
    | ⟨0, _⟩ => exact (Nat.zero_add _).symm
    | ⟨1, _⟩ => rfl

theorem ld_heads (x : Vec Ideal S8x256x768 .f32) (o : ℕ) (ho : o + 2 ≤ 8) (inb) (h : Fin 2) (r : Fin 256) (c : Fin 768) :
    View.ld x (Rect.unit (s := S8x256x768) ![o, 0, 0] S2x256x768.size inb) (ix3 h r c) = x (ix3 ⟨o + h.val, by omega⟩ r c) :=
  View.ld_unit_apply_of x _ _ inb (ix3 h r c) (ix3 ⟨o + h.val, by omega⟩ r c) fun a => by
    match a with
    | ⟨0, _⟩ => rfl
    | ⟨1, _⟩ => exact (Nat.zero_add _).symm
    | ⟨2, _⟩ => exact (Nat.zero_add _).symm

section Block

variable (t : Fin 16) (hi : (i 1).val = t.val % 8)
  (h0 : ∀ (r : Fin 1024) (d : Fin 512), x0 (ix2 r d) = Q (ix2 (stepRow t r) d))
  (hb : ∀ (h : Fin 8) (r : Fin 256) (c : Fin 768), x13 (ix3 h r c) = B h r c)

include hi h0 hb

theorem pair_ld (u p : Fin 4) (y0 y1 y2 z0 z1 z2 : Vec Ideal S256x512 .bf16)
    (hy0 : ∀ (r : Fin 256) (d : Fin 512), y0 (ix2 r d) = K (ix2 (winRow t ⟨u.val, by omega⟩ r) d))
    (hy1 : ∀ (r : Fin 256) (d : Fin 512), y1 (ix2 r d) = K (ix2 (winRow t ⟨u.val + 1, by omega⟩ r) d))
    (hy2 : ∀ (r : Fin 256) (d : Fin 512), y2 (ix2 r d) = K (ix2 (winRow t ⟨u.val + 2, by omega⟩ r) d))
    (hz0 : ∀ (r : Fin 256) (d : Fin 512), z0 (ix2 r d) = W (ix2 (winRow t ⟨u.val, by omega⟩ r) d))
    (hz1 : ∀ (r : Fin 256) (d : Fin 512), z1 (ix2 r d) = W (ix2 (winRow t ⟨u.val + 1, by omega⟩ r) d))
    (hz2 : ∀ (r : Fin 256) (d : Fin 512), z2 (ix2 r d) = W (ix2 (winRow t ⟨u.val + 2, by omega⟩ r) d))
    (a o h : ℕ) (ha : a = 256 * u.val) (ho : o = 128 * p.val) (hh : h = 2 * p.val) (inb0) (inb1) (inb2) (r : Fin 256) (d : Fin 128) :
    pair (mask i (BitVec.ofNat 32 u.val)) (View.ld x0 (Rect.unit (s := S1024x512) ![a, o] S256x128.size inb0))
      (View.ld y0 (Rect.unit (s := S256x512) ![0, o] S256x128.size inb1)) (View.ld y1 (Rect.unit (s := S256x512) ![0, o] S256x128.size inb1))
      (View.ld y2 (Rect.unit (s := S256x512) ![0, o] S256x128.size inb1)) (View.ld z0 (Rect.unit (s := S256x512) ![0, o] S256x128.size inb1))
      (View.ld z1 (Rect.unit (s := S256x512) ![0, o] S256x128.size inb1)) (View.ld z2 (Rect.unit (s := S256x512) ![0, o] S256x128.size inb1))
      (View.ld x13 (Rect.unit (s := S8x256x768) ![h, 0, 0] S2x256x768.size inb2)) (ix2 r d)
      = heads Q K W B (tileRow t u r) ⟨128 * p.val + d.val, by omega⟩ := by
  subst ha ho hh
  refine pair_block Q K W B i t hi u p _ _ _ _ _ _ _ _ (fun r d => ?_) (fun r d => ?_) (fun r d => ?_) (fun r d => ?_) (fun r d => ?_)
    (fun r d => ?_) (fun r d => ?_) (fun hd r c => ?_) r d
  · exact (ld_rows _ _ _ (by omega) (by omega) _ r d).trans (h0 _ _)
  · exact (ld_cols _ _ (by omega) _ r d).trans (hy0 _ _)
  · exact (ld_cols _ _ (by omega) _ r d).trans (hy1 _ _)
  · exact (ld_cols _ _ (by omega) _ r d).trans (hy2 _ _)
  · exact (ld_cols _ _ (by omega) _ r d).trans (hz0 _ _)
  · exact (ld_cols _ _ (by omega) _ r d).trans (hz1 _ _)
  · exact (ld_cols _ _ (by omega) _ r d).trans (hz2 _ _)
  · exact (ld_heads _ _ (by omega) _ hd r c).trans (hb _ _ _)

/-- The block the body leaves, from what its operands' blocks are. -/
theorem out15_apply
    (hk : ∀ (j : Fin 6) (r : Fin 256) (d : Fin 512), (![x1, x2, x3, x4, x5, x6] : Fin 6 → Vec Ideal S256x512 .bf16) j (ix2 r d) = K (ix2 (winRow t j r) d))
    (hv : ∀ (j : Fin 6) (r : Fin 256) (d : Fin 512), (![x7, x8, x9, x10, x11, x12] : Fin 6 → Vec Ideal S256x512 .bf16) j (ix2 r d) = W (ix2 (winRow t j r) d))
    (R : Fin 1024) (C : Fin 512) :
    out0_15 i x0 x1 x2 x3 x4 x5 x6 x7 x8 x9 x10 x11 x12 x13 x14 (ix2 R C)
      = rms width (heads Q K W B (stepRow t R)) (fun d => x14 (ix2 0 d)) C := by
  rw [out_eq]
  rw [View.ld_unit_lit (S := S1x512) _ _ (by decide)]
  refine stores_apply _ _ _ _ (fun R C => rms width (heads Q K W B (stepRow t R)) (fun d => x14 (ix2 0 d)) C) ?_ ?_ ?_ ?_ R C
  · refine fun r c => normed_apply _ _ r (heads Q K W B (tileRow t 0 r)) (beside_apply _ _ _ _ r _ ?_ ?_ ?_ ?_) c
    · exact pair_ld Q K W B i x0 x13 t hi h0 hb 0 0 _ _ _ _ _ _ (hk 0) (hk 1) (hk 2) (hv 0) (hv 1) (hv 2) 0 0 0 rfl rfl rfl _ _ _ r
    · exact pair_ld Q K W B i x0 x13 t hi h0 hb 0 1 _ _ _ _ _ _ (hk 0) (hk 1) (hk 2) (hv 0) (hv 1) (hv 2) 0 128 2 rfl rfl rfl _ _ _ r
    · exact pair_ld Q K W B i x0 x13 t hi h0 hb 0 2 _ _ _ _ _ _ (hk 0) (hk 1) (hk 2) (hv 0) (hv 1) (hv 2) 0 256 4 rfl rfl rfl _ _ _ r
    · exact pair_ld Q K W B i x0 x13 t hi h0 hb 0 3 _ _ _ _ _ _ (hk 0) (hk 1) (hk 2) (hv 0) (hv 1) (hv 2) 0 384 6 rfl rfl rfl _ _ _ r
  · refine fun r c => normed_apply _ _ r (heads Q K W B (tileRow t 1 r)) (beside_apply _ _ _ _ r _ ?_ ?_ ?_ ?_) c
    · exact pair_ld Q K W B i x0 x13 t hi h0 hb 1 0 _ _ _ _ _ _ (hk 1) (hk 2) (hk 3) (hv 1) (hv 2) (hv 3) 256 0 0 rfl rfl rfl _ _ _ r
    · exact pair_ld Q K W B i x0 x13 t hi h0 hb 1 1 _ _ _ _ _ _ (hk 1) (hk 2) (hk 3) (hv 1) (hv 2) (hv 3) 256 128 2 rfl rfl rfl _ _ _ r
    · exact pair_ld Q K W B i x0 x13 t hi h0 hb 1 2 _ _ _ _ _ _ (hk 1) (hk 2) (hk 3) (hv 1) (hv 2) (hv 3) 256 256 4 rfl rfl rfl _ _ _ r
    · exact pair_ld Q K W B i x0 x13 t hi h0 hb 1 3 _ _ _ _ _ _ (hk 1) (hk 2) (hk 3) (hv 1) (hv 2) (hv 3) 256 384 6 rfl rfl rfl _ _ _ r
  · refine fun r c => normed_apply _ _ r (heads Q K W B (tileRow t 2 r)) (beside_apply _ _ _ _ r _ ?_ ?_ ?_ ?_) c
    · exact pair_ld Q K W B i x0 x13 t hi h0 hb 2 0 _ _ _ _ _ _ (hk 2) (hk 3) (hk 4) (hv 2) (hv 3) (hv 4) 512 0 0 rfl rfl rfl _ _ _ r
    · exact pair_ld Q K W B i x0 x13 t hi h0 hb 2 1 _ _ _ _ _ _ (hk 2) (hk 3) (hk 4) (hv 2) (hv 3) (hv 4) 512 128 2 rfl rfl rfl _ _ _ r
    · exact pair_ld Q K W B i x0 x13 t hi h0 hb 2 2 _ _ _ _ _ _ (hk 2) (hk 3) (hk 4) (hv 2) (hv 3) (hv 4) 512 256 4 rfl rfl rfl _ _ _ r
    · exact pair_ld Q K W B i x0 x13 t hi h0 hb 2 3 _ _ _ _ _ _ (hk 2) (hk 3) (hk 4) (hv 2) (hv 3) (hv 4) 512 384 6 rfl rfl rfl _ _ _ r
  · refine fun r c => normed_apply _ _ r (heads Q K W B (tileRow t 3 r)) (beside_apply _ _ _ _ r _ ?_ ?_ ?_ ?_) c
    · exact pair_ld Q K W B i x0 x13 t hi h0 hb 3 0 _ _ _ _ _ _ (hk 3) (hk 4) (hk 5) (hv 3) (hv 4) (hv 5) 768 0 0 rfl rfl rfl _ _ _ r
    · exact pair_ld Q K W B i x0 x13 t hi h0 hb 3 1 _ _ _ _ _ _ (hk 3) (hk 4) (hk 5) (hv 3) (hv 4) (hv 5) 768 128 2 rfl rfl rfl _ _ _ r
    · exact pair_ld Q K W B i x0 x13 t hi h0 hb 3 2 _ _ _ _ _ _ (hk 3) (hk 4) (hk 5) (hv 3) (hv 4) (hv 5) 768 256 4 rfl rfl rfl _ _ _ r
    · exact pair_ld Q K W B i x0 x13 t hi h0 hb 3 3 _ _ _ _ _ _ (hk 3) (hk 4) (hk 5) (hv 3) (hv 4) (hv 5) 768 384 6 rfl rfl rfl _ _ _ r

end Block

end Cert.AttKernel

end
-- ==== Proof.AttArrays.lean ====
/- The attention kernel's arrays: what a block of each operand reads, and the result as an array of rows. -/
module

public import proofs.«01_k».proof.Proof.Gen.KernelIdeal.Value
public import proofs.«01_k».proof.Proof.AttKernel
public import Idealize.ShloMosaic.Lib.Pipeline.ValueKit
public import Idealize.ShloMosaic.Lib.Pointwise

@[expose] public section

set_option maxRecDepth 16384

noncomputable section

namespace Cert.AttArrays

open Idealize.ShloMosaic Idealize.ShloMosaic.TcCoe Cert.KernelIdeal Cert.KernelIdeal.Gen Cert.Rows

variable (m : (ℓ : Loc nD τ sig) → Buf (Elt Ideal) ℓ) (c : Dev nD)

/-- Columns of the bias table picked by a list of column numbers. -/
theorem gather_apply (x : FVec Ideal S8x257 .f32) (y : IVec S1024x1 32) (h : Fin 8) (p : Fin 1024) (b : Fin 257)
    (hb : min (y (ix2 p 0)).toInt.toNat 256 = b.val) :
    Host.gather gather_S8x257_S1024x1_S8x1024_0_1_n_n_1_1_81 x y (ix2 h p) = x (ix2 h b) := by
  unfold Host.gather
  refine congrArg x (funext fun a => Fin.ext ?_)
  match a with
  | ⟨1, _⟩ =>
    show GatherDims.start _ (ix2 h p) y 1 + GatherDims.batchCoord _ (ix2 h p) 1 + GatherDims.offCoord _ (ix2 h p) 1 = b.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S8x257_S1024x1_S8x1024_0_1_n_n_1_1_81.startIndexMap from List.mem_singleton.mpr rfl)]
    refine Eq.trans ?_ hb
    refine congrArg (fun z => min (y z).toInt.toNat 256) (funext fun b' => Fin.ext ?_)
    match b' with
    | ⟨0, _⟩ => rfl
    | ⟨1, _⟩ => rfl
  | ⟨0, _⟩ =>
    show GatherDims.start _ (ix2 h p) y 0 + GatherDims.batchCoord _ (ix2 h p) 0 + GatherDims.offCoord _ (ix2 h p) 0 = h.val
    rw [GatherDims.batchCoord_eq_zero _ _ _ List.not_mem_nil]
    unfold GatherDims.start
    rw [dif_neg (show ¬ (0 : Fin 2) ∈ gather_S8x257_S1024x1_S8x1024_0_1_n_n_1_1_81.startIndexMap from
      fun h => by cases List.mem_singleton.mp h)]
    simp only [Nat.add_zero, Nat.zero_add]
    rfl

theorem lit0_val : ∀ i : Fin 256, lit0 i = BitVec.ofNat 32 (i.val / 64) := by decide +kernel
theorem lit1_val : ∀ i : Fin 768, lit1 i = BitVec.ofNat 32 (i.val / 64) - 8#32 := by decide +kernel
theorem lit2_val : ∀ i : Fin 1024, min (lit2 i).toInt.toNat 256 = if i.val < 768 then min (640 - i.val) 256 else 256 := by
  decide +kernel

/-- The band: the twelve blocks of keys a tile sees against its four blocks of queries. -/
theorem band : ∀ (k : Fin 12) (q : Fin 4),
    IntOp.andi (IntOp.cmpi CmpIPredicate.sle (BitVec.ofNat 32 k.val - 8#32) (BitVec.ofNat 32 q.val))
      (IntOp.cmpi CmpIPredicate.sge (BitVec.ofNat 32 k.val - 8#32) (IntOp.subi (BitVec.ofNat 32 q.val) 8#32))
    = if q.val ≤ k.val ∧ k.val ≤ q.val + 8 then 1#1 else 0#1 := by decide +kernel

/-- What a pair of heads adds to its scores. -/
theorem bias_apply (h : Fin 8) (r : Fin 256) (j : Fin 768) :
    (V m c main_v22 (ix3 h r j) : EReal)
      = if 64 * (r.val / 64) ≤ j.val ∧ j.val < 64 * (r.val / 64) + 576 then
          (m ((c : Thread nD τ).loc main_arg3) (ix3 0 h ⟨min (640 + r.val - j.val) 256, by omega⟩) : EReal)
        else (⊥ : EReal) := by
  have e : V m c main_v22 (ix3 h r j) =
    Scalar.select
      (IntOp.andi (IntOp.cmpi CmpIPredicate.sle (lit1 (S1x768.rowMajor (ix2 0 j))) (lit0 (S256x1.rowMajor (ix2 r 0))))
        (IntOp.cmpi CmpIPredicate.sge (lit1 (S1x768.rowMajor (ix2 0 j)))
          (IntOp.subi (lit0 (S256x1.rowMajor (ix2 r 0))) 8#32)))
      (Host.gather gather_S8x257_S1024x1_S8x1024_0_1_n_n_1_1_81
        (fun i => m ((c : Thread nD τ).loc main_arg3) (ix3 0 (i 0) (i 1)))
        (broadcastInDim S1024x1 ![0] bcast_S1024_S1024x1_0
          (select (constantI S1024 1 0#1)
            (addi (fun i => lit2 (S1024.rowMajor i)) (broadcastInDim S1024 ![] bcast_S_S1024 (constantI S_ 32 257#32)))
            fun i => lit2 (S1024.rowMajor i)))
        (ix2 h ⟨(r.val * 1023 + j.val) % 1024, Nat.mod_lt _ (by decide)⟩))
      (Ideal.ofBits FTy.f32 4286578688#32) := by
    unfold V
    simp only [hostOps0, hostOps0_1, hostOps0_2, List.flatten_cons, List.flatten_nil, List.append_nil, List.cons_append, List.nil_append]
    entry_read
    simp -implicitDefEqProofs only [StableHlo.TRef.toBuf, StableHlo.TRef.ofBuf, cast_eq]
    pointwise
    rfl
  have e0 : S256x1.rowMajor (ix2 r 0) = r := Fin.ext ((Shape.rowMajor_val_two _).trans (by simp))
  have e1 : S1x768.rowMajor (ix2 0 j) = j := Fin.ext ((Shape.rowMajor_val_two _).trans (by simp))
  have hj := j.isLt
  have hr := r.isLt
  rw [e, e0, e1, lit0_val, lit1_val]
  rw [band ⟨j.val / 64, by clear e e0 e1; omega⟩ ⟨r.val / 64, by clear e e0 e1; omega⟩, ofBits_neg_inf]
  by_cases hb : 64 * (r.val / 64) ≤ j.val ∧ j.val < 64 * (r.val / 64) + 576
  · rw [if_pos hb, if_pos (show _ ∧ _ from ⟨by clear e e0 e1; dsimp only; omega, by clear e e0 e1; dsimp only; omega⟩)]
    rw [show ∀ x y : EReal, Scalar.select (1#1) x y = x from fun _ _ => rfl]
    refine (gather_apply _ _ h _ ⟨min (640 + r.val - j.val) 256, by clear e e0 e1; omega⟩ ?_).trans rfl
    have e2 : ∀ p : Fin 1024, (broadcastInDim S1024x1 ![0] bcast_S1024_S1024x1_0
          (select (constantI S1024 1 0#1)
            (addi (fun i => lit2 (S1024.rowMajor i)) (broadcastInDim S1024 ![] bcast_S_S1024 (constantI S_ 32 257#32)))
            fun i => lit2 (S1024.rowMajor i))) (ix2 p 0) = lit2 p := fun p => by
      have e3 : S1024.rowMajor (ix1 p) = p := Fin.ext ((Shape.rowMajor_val_one _).trans rfl)
      pointwise
      exact congrArg lit2 e3
    rw [e2, lit2_val]
    dsimp only
    clear e e0 e1 e2
    by_cases h' : r.val ≤ j.val
    · rw [if_pos (by omega)]; omega
    · rw [if_neg (by omega)]; omega
  · rw [if_neg hb, if_neg (show ¬ (_ ∧ _) from fun hh => hb (by clear e e0 e1; have h1 := hh.1; have h2 := hh.2; dsimp only at h1 h2; omega))]
    rfl

/-- The grid point's number is below 16. -/
theorem lt16 (t : Fin cfg0.N) : t.val < 16 := lt_of_lt_of_eq t.isLt N_0

/-- The grid point's number, as one of sixteen. -/
def step (t : Fin cfg0.N) : Fin 16 := ⟨t.val, lt16 t⟩

theorem idx (t : Fin cfg0.N) :
    win0_0.index t = ![t.val, 0]
    ∧ win0_1.index t = ![t.val / 8 * 32 + (4 * (t.val % 8) + 0 - 2), 0]
    ∧ win0_2.index t = ![t.val / 8 * 32 + (4 * (t.val % 8) + 1 - 2), 0]
    ∧ win0_3.index t = ![t.val / 8 * 32 + (4 * (t.val % 8) + 2 - 2), 0]
    ∧ win0_4.index t = ![t.val / 8 * 32 + (4 * (t.val % 8) + 3 - 2), 0]
    ∧ win0_5.index t = ![t.val / 8 * 32 + (4 * (t.val % 8) + 4 - 2), 0]
    ∧ win0_6.index t = ![t.val / 8 * 32 + (4 * (t.val % 8) + 5 - 2), 0]
    ∧ win0_7.index t = ![t.val / 8 * 32 + (4 * (t.val % 8) + 0 - 2), 0]
    ∧ win0_8.index t = ![t.val / 8 * 32 + (4 * (t.val % 8) + 1 - 2), 0]
    ∧ win0_9.index t = ![t.val / 8 * 32 + (4 * (t.val % 8) + 2 - 2), 0]
    ∧ win0_10.index t = ![t.val / 8 * 32 + (4 * (t.val % 8) + 3 - 2), 0]
    ∧ win0_11.index t = ![t.val / 8 * 32 + (4 * (t.val % 8) + 4 - 2), 0]
    ∧ win0_12.index t = ![t.val / 8 * 32 + (4 * (t.val % 8) + 5 - 2), 0]
    ∧ win0_13.index t = ![0, 0, 0]
    ∧ win0_14.index t = ![0, 0]
    ∧ win0_15.index t = ![t.val, 0] :=
  (by decide +kernel : ∀ t : Fin grid0.N, win0_0.index t = ![t.val, 0]
    ∧ win0_1.index t = ![t.val / 8 * 32 + (4 * (t.val % 8) + 0 - 2), 0]
    ∧ win0_2.index t = ![t.val / 8 * 32 + (4 * (t.val % 8) + 1 - 2), 0]
    ∧ win0_3.index t = ![t.val / 8 * 32 + (4 * (t.val % 8) + 2 - 2), 0]
    ∧ win0_4.index t = ![t.val / 8 * 32 + (4 * (t.val % 8) + 3 - 2), 0]
    ∧ win0_5.index t = ![t.val / 8 * 32 + (4 * (t.val % 8) + 4 - 2), 0]
    ∧ win0_6.index t = ![t.val / 8 * 32 + (4 * (t.val % 8) + 5 - 2), 0]
    ∧ win0_7.index t = ![t.val / 8 * 32 + (4 * (t.val % 8) + 0 - 2), 0]
    ∧ win0_8.index t = ![t.val / 8 * 32 + (4 * (t.val % 8) + 1 - 2), 0]
    ∧ win0_9.index t = ![t.val / 8 * 32 + (4 * (t.val % 8) + 2 - 2), 0]
    ∧ win0_10.index t = ![t.val / 8 * 32 + (4 * (t.val % 8) + 3 - 2), 0]
    ∧ win0_11.index t = ![t.val / 8 * 32 + (4 * (t.val % 8) + 4 - 2), 0]
    ∧ win0_12.index t = ![t.val / 8 * 32 + (4 * (t.val % 8) + 5 - 2), 0]
    ∧ win0_13.index t = ![0, 0, 0]
    ∧ win0_14.index t = ![0, 0]
    ∧ win0_15.index t = ![t.val, 0]) t

theorem coord (t : Fin cfg0.N) : ((grid0.coords t) 1).val = t.val % 8 :=
  (by decide +kernel : ∀ t : Fin grid0.N, ((grid0.coords t) 1).val = t.val % 8) t

theorem in0 (t : Fin cfg0.N) (r : Fin 1024) (d : Fin 512) :
    iblk m c 0 t (ix2 r d) = m ((c : Thread nD τ).loc main_arg0) (ix2 (AttKernel.stepRow (step t) r) d) := by
  blk_ext [iblk, V, idx t]
  show _ = 1024 * t.val + r.val
  omega

theorem in1 (t : Fin cfg0.N) (r : Fin 256) (d : Fin 512) :
    iblk m c 1 t (ix2 r d) = m ((c : Thread nD τ).loc main_arg1) (ix2 (AttKernel.winRow (step t) 0 r) d) := by
  blk_ext [iblk, V, idx t]
  (show _ = 8192 * (t.val / 8) + 256 * (4 * (t.val % 8) + 0 - 2) + r.val; omega)

theorem in2 (t : Fin cfg0.N) (r : Fin 256) (d : Fin 512) :
    iblk m c 2 t (ix2 r d) = m ((c : Thread nD τ).loc main_arg1) (ix2 (AttKernel.winRow (step t) 1 r) d) := by
  blk_ext [iblk, V, idx t]
  (show _ = 8192 * (t.val / 8) + 256 * (4 * (t.val % 8) + 1 - 2) + r.val; omega)

theorem in3 (t : Fin cfg0.N) (r : Fin 256) (d : Fin 512) :
    iblk m c 3 t (ix2 r d) = m ((c : Thread nD τ).loc main_arg1) (ix2 (AttKernel.winRow (step t) 2 r) d) := by
  blk_ext [iblk, V, idx t]
  (show _ = 8192 * (t.val / 8) + 256 * (4 * (t.val % 8) + 2 - 2) + r.val; omega)

theorem in4 (t : Fin cfg0.N) (r : Fin 256) (d : Fin 512) :
    iblk m c 4 t (ix2 r d) = m ((c : Thread nD τ).loc main_arg1) (ix2 (AttKernel.winRow (step t) 3 r) d) := by
  blk_ext [iblk, V, idx t]
  (show _ = 8192 * (t.val / 8) + 256 * (4 * (t.val % 8) + 3 - 2) + r.val; omega)

theorem in5 (t : Fin cfg0.N) (r : Fin 256) (d : Fin 512) :
    iblk m c 5 t (ix2 r d) = m ((c : Thread nD τ).loc main_arg1) (ix2 (AttKernel.winRow (step t) 4 r) d) := by
  blk_ext [iblk, V, idx t]
  (show _ = 8192 * (t.val / 8) + 256 * (4 * (t.val % 8) + 4 - 2) + r.val; omega)

theorem in6 (t : Fin cfg0.N) (r : Fin 256) (d : Fin 512) :
    iblk m c 6 t (ix2 r d) = m ((c : Thread nD τ).loc main_arg1) (ix2 (AttKernel.winRow (step t) 5 r) d) := by
  blk_ext [iblk, V, idx t]
  (show _ = 8192 * (t.val / 8) + 256 * (4 * (t.val % 8) + 5 - 2) + r.val; omega)

theorem in7 (t : Fin cfg0.N) (r : Fin 256) (d : Fin 512) :
    iblk m c 7 t (ix2 r d) = m ((c : Thread nD τ).loc main_arg2) (ix2 (AttKernel.winRow (step t) 0 r) d) := by
  blk_ext [iblk, V, idx t]
  (show _ = 8192 * (t.val / 8) + 256 * (4 * (t.val % 8) + 0 - 2) + r.val; omega)

theorem in8 (t : Fin cfg0.N) (r : Fin 256) (d : Fin 512) :
    iblk m c 8 t (ix2 r d) = m ((c : Thread nD τ).loc main_arg2) (ix2 (AttKernel.winRow (step t) 1 r) d) := by
  blk_ext [iblk, V, idx t]
  (show _ = 8192 * (t.val / 8) + 256 * (4 * (t.val % 8) + 1 - 2) + r.val; omega)

theorem in9 (t : Fin cfg0.N) (r : Fin 256) (d : Fin 512) :
    iblk m c 9 t (ix2 r d) = m ((c : Thread nD τ).loc main_arg2) (ix2 (AttKernel.winRow (step t) 2 r) d) := by
  blk_ext [iblk, V, idx t]
  (show _ = 8192 * (t.val / 8) + 256 * (4 * (t.val % 8) + 2 - 2) + r.val; omega)

theorem in10 (t : Fin cfg0.N) (r : Fin 256) (d : Fin 512) :
    iblk m c 10 t (ix2 r d) = m ((c : Thread nD τ).loc main_arg2) (ix2 (AttKernel.winRow (step t) 3 r) d) := by
  blk_ext [iblk, V, idx t]
  (show _ = 8192 * (t.val / 8) + 256 * (4 * (t.val % 8) + 3 - 2) + r.val; omega)

theorem in11 (t : Fin cfg0.N) (r : Fin 256) (d : Fin 512) :
    iblk m c 11 t (ix2 r d) = m ((c : Thread nD τ).loc main_arg2) (ix2 (AttKernel.winRow (step t) 4 r) d) := by
  blk_ext [iblk, V, idx t]
  (show _ = 8192 * (t.val / 8) + 256 * (4 * (t.val % 8) + 4 - 2) + r.val; omega)

theorem in12 (t : Fin cfg0.N) (r : Fin 256) (d : Fin 512) :
    iblk m c 12 t (ix2 r d) = m ((c : Thread nD τ).loc main_arg2) (ix2 (AttKernel.winRow (step t) 5 r) d) := by
  blk_ext [iblk, V, idx t]
  (show _ = 8192 * (t.val / 8) + 256 * (4 * (t.val % 8) + 5 - 2) + r.val; omega)

/-- What the bias table adds to a row's score with a candidate. -/
def bias (h : Fin 8) (r : Fin 256) (j : Fin 768) : EReal :=
  if 64 * (r.val / 64) ≤ j.val ∧ j.val < 64 * (r.val / 64) + 576 then
    (m ((c : Thread nD τ).loc main_arg3) (ix3 0 h ⟨min (640 + r.val - j.val) 256, by omega⟩) : EReal)
  else ⊥

theorem in13 (t : Fin cfg0.N) (h : Fin 8) (r : Fin 256) (j : Fin 768) : iblk m c 13 t (ix3 h r j) = bias m c h r j := by
  have e : iblk m c 13 t (ix3 h r j) = V m c main_v22 (ix3 h r j) := by
    blk_ext [iblk, idx t]
  rw [e]
  exact bias_apply m c h r j

theorem in14 (t : Fin cfg0.N) (d : Fin 512) :
    iblk m c 14 t (ix2 0 d) = m ((c : Thread nD τ).loc main_arg4) (ix2 0 d) := by
  have e : iblk m c 14 t (ix2 0 d) = V m c main_v24 (ix2 0 d) := by
    blk_ext [iblk, idx t]
  rw [e]
  unfold V
  simp only [hostOps0, hostOps0_1, hostOps0_2, List.flatten_cons, List.flatten_nil, List.append_nil, List.cons_append, List.nil_append]
  entry_read
  pointwise

/-- The call's result, as an array. -/
def res15 : (⟨S16384x512, .bf16⟩ : BufTy).Contents (Elt Ideal) := fun i =>
  rms AttKernel.width (AttKernel.heads (m ((c : Thread nD τ).loc main_arg0)) (m ((c : Thread nD τ).loc main_arg1))
    (m ((c : Thread nD τ).loc main_arg2)) (bias m c) (i 0)) (fun d => m ((c : Thread nD τ).loc main_arg4) (ix2 0 d)) (i 1)

theorem emb15 (t : Fin cfg0.N) (r : Fin 1024) (d : Fin 512) :
    ((cfg0.win 15).blk t).view.emb (ix2 r d) = ix2 (AttKernel.stepRow (step t) r) d := by
  blk_ext [idx t]
  show _ = 1024 * t.val + r.val
  omega

theorem keys (t : Fin cfg0.N) (j : Fin 6) (r : Fin 256) (d : Fin 512) :
    (![iblk m c 1 t, iblk m c 2 t, iblk m c 3 t, iblk m c 4 t, iblk m c 5 t, iblk m c 6 t] : Fin 6 → Vec Ideal S256x512 .bf16) j (ix2 r d)
      = m ((c : Thread nD τ).loc main_arg1) (ix2 (AttKernel.winRow (step t) j r) d) :=
  match j with
  | 0 => in1 m c t r d
  | 1 => in2 m c t r d
  | 2 => in3 m c t r d
  | 3 => in4 m c t r d
  | 4 => in5 m c t r d
  | 5 => in6 m c t r d

theorem values (t : Fin cfg0.N) (j : Fin 6) (r : Fin 256) (d : Fin 512) :
    (![iblk m c 7 t, iblk m c 8 t, iblk m c 9 t, iblk m c 10 t, iblk m c 11 t, iblk m c 12 t] : Fin 6 → Vec Ideal S256x512 .bf16) j (ix2 r d)
      = m ((c : Thread nD τ).loc main_arg2) (ix2 (AttKernel.winRow (step t) j r) d) :=
  match j with
  | 0 => in7 m c t r d
  | 1 => in8 m c t r d
  | 2 => in9 m c t r d
  | 3 => in10 m c t r d
  | 4 => in11 m c t r d
  | 5 => in12 m c t r d

theorem after15 (t : Fin cfg0.N) (r : Fin 1024) (d : Fin 512) :
    (dats m 0 c).after 15 t (ix2 r d) = res15 m c (ix2 (AttKernel.stepRow (step t) r) d) := by
  rw [after0_15]
  refine (AttKernel.out15_apply (m ((c : Thread nD τ).loc main_arg0)) (m ((c : Thread nD τ).loc main_arg1))
    (m ((c : Thread nD τ).loc main_arg2)) (bias m c) (grid0.coords t) (iblk m c 0 t) (iblk m c 1 t) (iblk m c 2 t) (iblk m c 3 t)
    (iblk m c 4 t) (iblk m c 5 t) (iblk m c 6 t) (iblk m c 7 t) (iblk m c 8 t) (iblk m c 9 t) (iblk m c 10 t) (iblk m c 11 t)
    (iblk m c 12 t) (iblk m c 13 t) (iblk m c 14 t) (step t) (coord t) (in0 m c t) (in13 m c t) (keys m c t) (values m c t) r d).trans ?_
  exact congrArg (fun g => rms AttKernel.width _ g d) (funext fun d => in14 m c t d)

theorem final15 : (dats m 0 c).arrAt 15 cfg0.N = res15 m c := by
  refine (dats m 0 c).arrAt_eq_of_covers 15 _ (by decide +kernel) fun t hf y => ?_
  idx_vars y
  rw [emb15]
  blk_simp
  exact after15 m c t _ _

end Cert.AttArrays

end
-- ==== Proof.AttReference.lean ====
/- The attention reference at an index. -/
module

public import proofs.«01_k».proof.Proof.Gen.ReferenceIdeal.Read
public import proofs.«01_k».proof.Proof.Rows
public import Idealize.ShloMosaic.Lib.Pipeline.ValueKit
public import Idealize.ShloMosaic.Lib.Pointwise

@[expose] public section

set_option maxRecDepth 16384

noncomputable section

namespace Cert.AttReference

open Idealize.ShloMosaic Cert.ReferenceIdeal Cert.ReferenceIdeal.Gen Cert.ReferenceIdeal.Read Cert.Rows

variable (a0 a1 a2 : (⟨S16384x512, .bf16⟩ : BufTy).Contents (Elt Ideal)) (a3 : (⟨S1x8x257, .f32⟩ : BufTy).Contents (Elt Ideal))
  (a4 : (⟨S1x512, .f32⟩ : BufTy).Contents (Elt Ideal))

/-- The row of query `r` of chunk `n`. -/
def qRow (b : Fin 2) (n : Fin 128) (r : Fin 64) : Fin 16384 := ⟨b.val * 8192 + (n.val * 64 + r.val), by omega⟩

/-- The row of a chunk's candidate `j`, where there is one. -/
def kRow (b : Fin 2) (n : Fin 128) (j : Fin 576) : Fin 16384 := ⟨b.val * 8192 + (n.val * 64 + j.val - 512), by omega⟩

/-- The column of lane `e` of head `h`. -/
def col (h : Fin 8) (e : Fin 64) : Fin 512 := ⟨h.val * 64 + e.val, by omega⟩

theorem v7_apply (b : Fin 2) (n : Fin 128) (r : Fin 64) (h : Fin 8) (e : Fin 64) :
    val_main_v7 (F := Ideal) a0 (ix5 b n r h e) = a0 (ix2 (qRow b n r) (col h e)) := by
  pointwise [val_main_v7, val_main_v1, val_main_v0]
  rfl

theorem v10_apply (b : Fin 2) (n : Fin 136) (r : Fin 64) (h : Fin 8) (e : Fin 64) (hn : 8 ≤ n.val) :
    val_main_v10 (F := Ideal) a1 (ix5 b n r h e) = a1 (ix2 ⟨b.val * 8192 + ((n.val - 8) * 64 + r.val), by omega⟩ (col h e)) := by
  pointwise [val_main_v10, val_main_v8, val_main_v3, val_main_v2, val_main_call0_v0, val_main_c]
  rw [dif_pos ⟨hn, by omega⟩]
  exact congrArg₂ (fun p q => a1 (ix2 p q)) (Fin.ext (by dsimp only; omega)) rfl

theorem v11_apply (b : Fin 2) (n : Fin 136) (r : Fin 64) (h : Fin 8) (e : Fin 64) (hn : 8 ≤ n.val) :
    val_main_v11 (F := Ideal) a2 (ix5 b n r h e) = a2 (ix2 ⟨b.val * 8192 + ((n.val - 8) * 64 + r.val), by omega⟩ (col h e)) := by
  pointwise [val_main_v11, val_main_v9, val_main_v5, val_main_v4, val_main_call1_v0, val_main_c_0]
  rw [dif_pos ⟨hn, by omega⟩]
  exact congrArg₂ (fun p q => a2 (ix2 p q)) (Fin.ext (by dsimp only; omega)) rfl

theorem v21_raw (b : Fin 2) (n : Fin 128) (r : Fin 576) (h : Fin 8) (e : Fin 64) :
    val_main_v21 (F := Ideal) a1 (ix5 b n r h e)
      = val_main_v10 (F := Ideal) a1 (ix5 b ⟨n.val + r.val / 64, by omega⟩ ⟨r.val % 64, by omega⟩ h e) := by
  unfold val_main_v21 val_main_v20 val_main_v19 val_main_v18 val_main_v17 val_main_v16 val_main_v15 val_main_v14 val_main_v13 val_main_v12
  generalize val_main_v10 (F := Ideal) a1 = y
  pointwise
  by_cases h0 : r.val < 64
  · rw [dif_pos h0]
    exact congrArg₂ (fun p q => y (ix5 b p q h e)) (Fin.ext (by dsimp only; omega)) (Fin.ext (by dsimp only; omega))
  rw [dif_neg h0]
  by_cases h1 : r.val - 64 < 64
  · rw [dif_pos h1]
    exact congrArg₂ (fun p q => y (ix5 b p q h e)) (Fin.ext (by dsimp only; omega)) (Fin.ext (by dsimp only; omega))
  rw [dif_neg h1]
  by_cases h2 : r.val - 64 - 64 < 64
  · rw [dif_pos h2]
    exact congrArg₂ (fun p q => y (ix5 b p q h e)) (Fin.ext (by dsimp only; omega)) (Fin.ext (by dsimp only; omega))
  rw [dif_neg h2]
  by_cases h3 : r.val - 64 - 64 - 64 < 64
  · rw [dif_pos h3]
    exact congrArg₂ (fun p q => y (ix5 b p q h e)) (Fin.ext (by dsimp only; omega)) (Fin.ext (by dsimp only; omega))
  rw [dif_neg h3]
  by_cases h4 : r.val - 64 - 64 - 64 - 64 < 64
  · rw [dif_pos h4]
    exact congrArg₂ (fun p q => y (ix5 b p q h e)) (Fin.ext (by dsimp only; omega)) (Fin.ext (by dsimp only; omega))
  rw [dif_neg h4]
  by_cases h5 : r.val - 64 - 64 - 64 - 64 - 64 < 64
  · rw [dif_pos h5]
    exact congrArg₂ (fun p q => y (ix5 b p q h e)) (Fin.ext (by dsimp only; omega)) (Fin.ext (by dsimp only; omega))
  rw [dif_neg h5]
  by_cases h6 : r.val - 64 - 64 - 64 - 64 - 64 - 64 < 64
  · rw [dif_pos h6]
    exact congrArg₂ (fun p q => y (ix5 b p q h e)) (Fin.ext (by dsimp only; omega)) (Fin.ext (by dsimp only; omega))
  rw [dif_neg h6]
  by_cases h7 : r.val - 64 - 64 - 64 - 64 - 64 - 64 - 64 < 64
  · rw [dif_pos h7]
    exact congrArg₂ (fun p q => y (ix5 b p q h e)) (Fin.ext (by dsimp only; omega)) (Fin.ext (by dsimp only; omega))
  rw [dif_neg h7]
  exact congrArg₂ (fun p q => y (ix5 b p q h e)) (Fin.ext (by dsimp only; omega)) (Fin.ext (by dsimp only; omega))

theorem v21_apply (b : Fin 2) (n : Fin 128) (r : Fin 576) (h : Fin 8) (e : Fin 64) (hn : 512 ≤ n.val * 64 + r.val) :
    val_main_v21 (F := Ideal) a1 (ix5 b n r h e) = a1 (ix2 (kRow b n r) (col h e)) := by
  rw [v21_raw, v10_apply _ _ _ _ _ _ (by dsimp only; omega)]
  exact congrArg (fun z => a1 (ix2 z (col h e))) (Fin.ext (by simp only [kRow]; omega))

theorem v31_raw (b : Fin 2) (n : Fin 128) (r : Fin 576) (h : Fin 8) (e : Fin 64) :
    val_main_v31 (F := Ideal) a2 (ix5 b n r h e)
      = val_main_v11 (F := Ideal) a2 (ix5 b ⟨n.val + r.val / 64, by omega⟩ ⟨r.val % 64, by omega⟩ h e) := by
  unfold val_main_v31 val_main_v30 val_main_v29 val_main_v28 val_main_v27 val_main_v26 val_main_v25 val_main_v24 val_main_v23 val_main_v22
  generalize val_main_v11 (F := Ideal) a2 = y
  pointwise
  by_cases h0 : r.val < 64
  · rw [dif_pos h0]
    exact congrArg₂ (fun p q => y (ix5 b p q h e)) (Fin.ext (by dsimp only; omega)) (Fin.ext (by dsimp only; omega))
  rw [dif_neg h0]
  by_cases h1 : r.val - 64 < 64
  · rw [dif_pos h1]
    exact congrArg₂ (fun p q => y (ix5 b p q h e)) (Fin.ext (by dsimp only; omega)) (Fin.ext (by dsimp only; omega))
  rw [dif_neg h1]
  by_cases h2 : r.val - 64 - 64 < 64
  · rw [dif_pos h2]
    exact congrArg₂ (fun p q => y (ix5 b p q h e)) (Fin.ext (by dsimp only; omega)) (Fin.ext (by dsimp only; omega))
  rw [dif_neg h2]
  by_cases h3 : r.val - 64 - 64 - 64 < 64
  · rw [dif_pos h3]
    exact congrArg₂ (fun p q => y (ix5 b p q h e)) (Fin.ext (by dsimp only; omega)) (Fin.ext (by dsimp only; omega))
  rw [dif_neg h3]
  by_cases h4 : r.val - 64 - 64 - 64 - 64 < 64
  · rw [dif_pos h4]
    exact congrArg₂ (fun p q => y (ix5 b p q h e)) (Fin.ext (by dsimp only; omega)) (Fin.ext (by dsimp only; omega))
  rw [dif_neg h4]
  by_cases h5 : r.val - 64 - 64 - 64 - 64 - 64 < 64
  · rw [dif_pos h5]
    exact congrArg₂ (fun p q => y (ix5 b p q h e)) (Fin.ext (by dsimp only; omega)) (Fin.ext (by dsimp only; omega))
  rw [dif_neg h5]
  by_cases h6 : r.val - 64 - 64 - 64 - 64 - 64 - 64 < 64
  · rw [dif_pos h6]
    exact congrArg₂ (fun p q => y (ix5 b p q h e)) (Fin.ext (by dsimp only; omega)) (Fin.ext (by dsimp only; omega))
  rw [dif_neg h6]
  by_cases h7 : r.val - 64 - 64 - 64 - 64 - 64 - 64 - 64 < 64
  · rw [dif_pos h7]
    exact congrArg₂ (fun p q => y (ix5 b p q h e)) (Fin.ext (by dsimp only; omega)) (Fin.ext (by dsimp only; omega))
  rw [dif_neg h7]
  exact congrArg₂ (fun p q => y (ix5 b p q h e)) (Fin.ext (by dsimp only; omega)) (Fin.ext (by dsimp only; omega))

theorem v31_apply (b : Fin 2) (n : Fin 128) (r : Fin 576) (h : Fin 8) (e : Fin 64) (hn : 512 ≤ n.val * 64 + r.val) :
    val_main_v31 (F := Ideal) a2 (ix5 b n r h e) = a2 (ix2 (kRow b n r) (col h e)) := by
  rw [v31_raw, v11_apply _ _ _ _ _ _ (by dsimp only; omega)]
  exact congrArg (fun z => a2 (ix2 z (col h e))) (Fin.ext (by simp only [kRow]; omega))

/-- Columns of the bias table picked by a table of column numbers. -/
theorem gather_apply (x : FVec Ideal S8x257 .f32) (y : IVec S64x576x1 32) (h : Fin 8) (p : Fin 64) (q : Fin 576) (b : Fin 257)
    (hb : min (y (ix3 p q 0)).toInt.toNat 256 = b.val) :
    Host.gather gather_S8x257_S64x576x1_S8x64x576_0_1_n_n_1_2_81 x y (ix3 h p q) = x (ix2 h b) := by
  unfold Host.gather
  refine congrArg x (funext fun a => Fin.ext ?_)
  match a with
  | ⟨1, _⟩ =>
    show GatherDims.start _ (ix3 h p q) y 1 + GatherDims.batchCoord _ (ix3 h p q) 1 + GatherDims.offCoord _ (ix3 h p q) 1 = b.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S8x257_S64x576x1_S8x64x576_0_1_n_n_1_2_81.startIndexMap from List.mem_singleton.mpr rfl)]
    refine Eq.trans ?_ hb
    refine congrArg (fun z => min (y z).toInt.toNat 256) (funext fun b' => Fin.ext ?_)
    match b' with
    | ⟨0, _⟩ => rfl
    | ⟨1, _⟩ => rfl
    | ⟨2, _⟩ => rfl
  | ⟨0, _⟩ =>
    show GatherDims.start _ (ix3 h p q) y 0 + GatherDims.batchCoord _ (ix3 h p q) 0 + GatherDims.offCoord _ (ix3 h p q) 0 = h.val
    rw [GatherDims.batchCoord_eq_zero _ _ _ List.not_mem_nil]
    unfold GatherDims.start
    rw [dif_neg (show ¬ (0 : Fin 2) ∈ gather_S8x257_S64x576x1_S8x64x576_0_1_n_n_1_2_81.startIndexMap from
      fun h => by cases List.mem_singleton.mp h)]
    simp only [Nat.add_zero, Nat.zero_add]
    rfl

end Cert.AttReference

end
-- ==== Proof.AttScores.lean ====
/- The attention reference's scores, weights and averages at an index. -/
module

public import proofs.«01_k».proof.Proof.AttReference
public import proofs.«01_k».proof.Proof.AttKernel
public import Idealize.ShloMosaic.Lib.Pipeline.ValueKit
public import Idealize.ShloMosaic.Lib.Pointwise

@[expose] public section

set_option maxRecDepth 16384

noncomputable section

namespace Cert.AttScores

open Idealize.ShloMosaic Cert.ReferenceIdeal Cert.ReferenceIdeal.Gen Cert.ReferenceIdeal.Read Cert.Rows Cert.AttReference
open Cert.AttKernel (eighth width)

variable (a0 a1 a2 : (⟨S16384x512, .bf16⟩ : BufTy).Contents (Elt Ideal)) (a3 : (⟨S1x8x257, .f32⟩ : BufTy).Contents (Elt Ideal))
  (a4 : (⟨S1x512, .f32⟩ : BufTy).Contents (Elt Ideal))

/-- The clipped distance of a candidate, as a column of the bias table. -/
def dist (r : Fin 64) (j : Fin 576) : Fin 257 := ⟨min (640 + r.val - j.val) 256, by omega⟩

theorem clip_val : ∀ k : Fin 768,
    min (Scalar.select
      (IntOp.cmpi CmpIPredicate.slt
        (IntOp.addi (IntOp.minsi (128#32) (IntOp.maxsi (4294967168#32) (BitVec.ofNat 32 k.val - 128#32))) 128#32) 0#32)
      (IntOp.addi
        (IntOp.addi (IntOp.minsi (128#32) (IntOp.maxsi (4294967168#32) (BitVec.ofNat 32 k.val - 128#32))) 128#32) 257#32)
      (IntOp.addi (IntOp.minsi (128#32) (IntOp.maxsi (4294967168#32) (BitVec.ofNat 32 k.val - 128#32))) 128#32)).toInt.toNat 256
    = min k.val 256 := by decide +kernel

theorem v52_apply (r : Fin 64) (j : Fin 576) :
    min (val_main_v52 (F := Ideal) (ix3 r j 0)).toInt.toNat 256 = (dist r j).val := by
  pointwise [val_main_v52, val_main_v51, val_main_v50, val_main_v49, val_main_c_6, val_main_v48, val_main_v47, val_main_c_5, val_main_v46, val_main_v45, val_main_c_4, val_main_v44, val_main_call2_v4, val_main_call2_v3, val_main_call2_v2, val_main_call2_v1, val_main_call2_v0, val_main_c_3, val_main_c_2, val_main_v43, val_main_v42, val_main_v41, val_main_v40, val_main_v39, val_main_v38, val_main_v37, val_main_c_1, val_main_v36, val_main_v35]
  have e : IntOp.subi (IntOp.addi (512#32) (BitVec.ofNat 32 r.val)) (BitVec.ofNat 32 j.val)
      = BitVec.ofNat 32 (640 + r.val - j.val) - 128#32 := by
    have hr := r.isLt
    have hj := j.isLt
    apply BitVec.eq_of_toNat_eq
    simp only [IntOp.subi, IntOp.addi, BitVec.toNat_sub, BitVec.toNat_add, BitVec.toNat_ofNat]
    omega
  rw [e]
  exact clip_val ⟨640 + r.val - j.val, by omega⟩

theorem v53_apply (h : Fin 8) (r : Fin 64) (j : Fin 576) :
    val_main_v53 (F := Ideal) a3 (ix3 h r j) = a3 (ix3 0 h (dist r j)) := by
  unfold val_main_v53
  refine (gather_apply _ _ h r j (dist r j) (v52_apply r j)).trans ?_
  pointwise [val_main_v6]

theorem sign_val : ∀ (a : Fin 137) (b : Fin 64),
    IntOp.cmpi CmpIPredicate.sge (BitVec.ofNat 32 (a.val * 64 + b.val) - 512#32) 0#32
      = if 8 ≤ a.val then 1#1 else 0#1 := by decide +kernel

theorem v66_apply (r : Fin 128) (j : Fin 576) :
    val_main_v66 (F := Ideal) (ix2 r j) = if 512 ≤ r.val * 64 + j.val then 1#1 else 0#1 := by
  pointwise [val_main_v66, val_main_v65, val_main_c_9, val_main_v64, val_main_v63, val_main_v62, val_main_v61, val_main_v60, val_main_v59, val_main_v58, val_main_c_8, val_main_v57, val_main_v56, val_main_c_7, val_main_v55, val_main_v54]
  have hr := r.isLt
  have hj := j.isLt
  have e : IntOp.addi (IntOp.muli (IntOp.subi (BitVec.ofNat 32 r.val) 8#32) 64#32) (BitVec.ofNat 32 j.val)
      = BitVec.ofNat 32 ((r.val + j.val / 64) * 64 + j.val % 64) - 512#32 := by
    apply BitVec.eq_of_toNat_eq
    simp only [IntOp.subi, IntOp.addi, IntOp.muli, BitVec.toNat_sub, BitVec.toNat_add, BitVec.toNat_mul, BitVec.toNat_ofNat]
    omega
  rw [e, sign_val ⟨r.val + j.val / 64, by omega⟩ ⟨j.val % 64, by omega⟩]
  by_cases hc : 512 ≤ r.val * 64 + j.val
  · rw [if_pos hc, if_pos (by dsimp only; omega)]
  · rw [if_neg hc, if_neg (by dsimp only; omega)]

theorem eighth_f32 : Ideal.ofBits FTy.f32 1040187392#32 = eighth := by
  unfold eighth
  simp [Ideal.ofBits, Ideal.ieee]
  rw [← EReal.coe_mul]
  norm_num

/-- A query's score with candidate `j` of its chunk. -/
def rscore (b : Fin 2) (n : Fin 128) (h : Fin 8) (r : Fin 64) (j : Fin 576) : EReal :=
  if 512 ≤ n.val * 64 + j.val then
    (∑ l : Fin 64, a0 (ix2 (qRow b n r) (col h l)) * a1 (ix2 (kRow b n j) (col h l))) * eighth + a3 (ix3 0 h (dist r j))
  else ⊥

theorem v71_apply (b : Fin 2) (n : Fin 128) (h : Fin 8) (r : Fin 64) (j : Fin 576) :
    val_main_v71 (F := Ideal) a0 a1 a3 (ix5 b n h r j) = rscore a0 a1 a3 b n h r j := by
  have hq := v7_apply a0
  have hk := v21_apply a1
  have ht := v53_apply a3
  have hw := v66_apply
  unfold val_main_v71 val_main_v70 val_main_v69 val_main_v68 val_main_v34 val_main_v32 val_main_call3_v1 val_main_v67
  revert hq hk ht hw
  generalize val_main_v7 (F := Ideal) a0 = q
  generalize val_main_v21 (F := Ideal) a1 = k
  generalize val_main_v53 (F := Ideal) a3 = t
  generalize val_main_v66 (F := Ideal) = w
  intro hq hk ht hw
  pointwise [val_main_v33, val_main_cst, val_main_call3_v2, val_main_call3_v0, val_main_cst_10]
  rw [hw, ht, eighth_f32]
  unfold rscore
  by_cases hc : 512 ≤ n.val * 64 + j.val
  · rw [if_pos hc, if_pos hc]
    refine (show Scalar.select (1#1) _ _ = _ from rfl).trans ?_
    refine congrArg (fun z : EReal => z * eighth + _) (Finset.sum_congr rfl fun l _ => ?_)
    rw [hq, hk _ _ _ _ _ hc]
  · rw [if_neg hc, if_neg hc]
    exact ofBits_neg_inf

theorem v72_apply (b : Fin 2) (n : Fin 128) (h : Fin 8) (r : Fin 64) :
    val_main_v72 (F := Ideal) a0 a1 a3 (ix4 b n h r) = peak fun j => val_main_v71 (F := Ideal) a0 a1 a3 (ix5 b n h r j) := by
  unfold val_main_v72
  generalize val_main_v71 (F := Ideal) a0 a1 a3 = y
  pointwise [val_main_cst_11]
  rw [ofBits_neg_inf]
  rfl

theorem v74_apply (b : Fin 2) (n : Fin 128) (h : Fin 8) (r : Fin 64) :
    val_main_v74 (F := Ideal) a0 a1 a3 (ix4 b n h r) = peak fun j => val_main_v71 (F := Ideal) a0 a1 a3 (ix5 b n h r j) := by
  have z : val_main_v73 (F := Ideal) (ix4 b n h r) = ⊥ := by
    pointwise [val_main_v73, val_main_cst_12]
    exact ofBits_neg_inf
  rw [val_main_v74_apply, z, v72_apply]
  generalize (peak fun j => val_main_v71 (F := Ideal) a0 a1 a3 (ix5 b n h r j)) = y
  exact max_eq_right bot_le

theorem v82_apply (b : Fin 2) (n : Fin 128) (h : Fin 8) (r : Fin 64) (j : Fin 576) :
    val_main_v82 (F := Ideal) a0 a1 a3 (ix5 b n h r j)
      = Ideal.div (weight (rscore a0 a1 a3 b n h r) j) (total (rscore a0 a1 a3 b n h r)) := by
  rw [← funext (v71_apply a0 a1 a3 b n h r)]
  unfold total weight
  rw [← v74_apply]
  unfold val_main_v82 val_main_v81 val_main_v80 val_main_v79 val_main_v78 val_main_v77 val_main_v76 val_main_v75
  generalize val_main_v74 (F := Ideal) a0 a1 a3 = p
  generalize val_main_v71 (F := Ideal) a0 a1 a3 = k
  pointwise [val_main_cst_13]

/-- A lane of a query's head, averaged. -/
def ravg (b : Fin 2) (n : Fin 128) (h : Fin 8) (r e : Fin 64) : EReal :=
  avgBefore (rscore a0 a1 a3 b n h r) (fun j => val_main_v31 (F := Ideal) a2 (ix5 b n j h e))

theorem v83_apply (b : Fin 2) (n : Fin 128) (h : Fin 8) (r e : Fin 64) :
    val_main_v83 (F := Ideal) a0 a1 a2 a3 (ix5 b n h e r) = ravg a0 a1 a2 a3 b n h r e := by
  have hp := v82_apply a0 a1 a3
  unfold ravg
  unfold val_main_v83
  revert hp
  generalize val_main_v82 (F := Ideal) a0 a1 a3 = p
  generalize val_main_v31 (F := Ideal) a2 = k
  intro hp
  pointwise
  simp only [hp]
  unfold avgBefore
  exact Finset.sum_congr rfl fun j _ => mul_comm _ _

theorem v85_apply (b : Fin 2) (s : Fin 8192) (d : Fin 512) :
    val_main_v85 (F := Ideal) a0 a1 a2 a3 (ix3 b s d)
      = ravg a0 a1 a2 a3 b ⟨s.val / 64, by omega⟩ ⟨d.val / 64, by omega⟩ ⟨s.val % 64, by omega⟩ ⟨d.val % 64, by omega⟩ := by
  have hp := v83_apply a0 a1 a2 a3
  unfold val_main_v85 val_main_v84
  revert hp
  generalize val_main_v83 (F := Ideal) a0 a1 a2 a3 = p
  intro hp
  pointwise
  exact hp _ _ _ _ _

theorem squares_apply (p : FVec Ideal S2x8192x512 .f32) (b : Fin 2) (s : Fin 8192) :
    Host.reduceAdd (mulf p p) (val_main_cst_14 (F := Ideal)) reducesTo_S2x8192x512_S2x8192_d2 h_S_ (ix2 b s)
      = ∑ d : Fin 512, p (ix3 b s d) * p (ix3 b s d) := by
  pointwise [val_main_cst_14]

theorem v88_apply (b : Fin 2) (s : Fin 8192) :
    val_main_v88 (F := Ideal) a0 a1 a2 a3 (ix2 b s)
      = ∑ d : Fin 512, val_main_v85 (F := Ideal) a0 a1 a2 a3 (ix3 b s d) * val_main_v85 (F := Ideal) a0 a1 a2 a3 (ix3 b s d) := by
  unfold val_main_v88 val_main_v87
  exact squares_apply _ b s

theorem norm_apply (p : FVec Ideal S2x8192x512 .f32) (q : FVec Ideal S2x8192 .f32)
    (hq : ∀ (b : Fin 2) (s : Fin 8192), q (ix2 b s) = ∑ d : Fin 512, p (ix3 b s d) * p (ix3 b s d))
    (b : Fin 2) (s : Fin 8192) (d : Fin 512) :
    mulf (mulf p (broadcastInDim S2x8192x512 ![0, 1, 2] bcast_S2x8192x1_S2x8192x512_0_1_2
        (Host.rsqrt (addf (Host.divf (broadcastInDim S2x8192x1 ![0, 1] bcast_S2x8192_S2x8192x1_0_1 q)
          (val_main_v90 (F := Ideal))) (val_main_v92 (F := Ideal)))))) (val_main_v98 (F := Ideal) a4) (ix3 b s d)
      = rms width (fun d => p (ix3 b s d)) (fun d => a4 (ix2 0 d)) d := by
  have h := hq b s
  unfold rms
  dsimp only
  rw [← h]
  clear h hq
  pointwise [val_main_v98, val_main_v97, val_main_v86, val_main_v90, val_main_v92, val_main_cst_15, val_main_cst_16]

theorem v99_apply (b : Fin 2) (s : Fin 8192) (d : Fin 512) :
    val_main_v99 (F := Ideal) a0 a1 a2 a3 a4 (ix3 b s d)
      = rms width (fun d => val_main_v85 (F := Ideal) a0 a1 a2 a3 (ix3 b s d)) (fun d => a4 (ix2 0 d)) d := by
  have hq := v88_apply a0 a1 a2 a3
  unfold val_main_v99 val_main_v96 val_main_v95 val_main_v94 val_main_v93 val_main_v91 val_main_v89
  revert hq
  generalize val_main_v88 (F := Ideal) a0 a1 a2 a3 = q
  generalize val_main_v85 (F := Ideal) a0 a1 a2 a3 = p
  intro hq
  exact norm_apply a4 p q hq b s d

theorem v101_apply (R : Fin 16384) (C : Fin 512) :
    val_main_v101 (F := Ideal) a0 a1 a2 a3 a4 (ix2 R C)
      = rms width (fun d => ravg a0 a1 a2 a3 ⟨R.val / 8192, by omega⟩ ⟨R.val % 8192 / 64, by omega⟩ ⟨d.val / 64, by omega⟩
          ⟨R.val % 64, by omega⟩ ⟨d.val % 64, by omega⟩) (fun d => a4 (ix2 0 d)) C := by
  have hp := v99_apply a0 a1 a2 a3 a4
  have hq := v85_apply a0 a1 a2 a3
  unfold val_main_v101 val_main_v100
  revert hp
  generalize val_main_v99 (F := Ideal) a0 a1 a2 a3 a4 = p
  intro hp
  pointwise
  rw [hp]
  refine congrArg (fun f => rms width f _ C) (funext fun d => (hq _ _ d).trans ?_)
  exact congrArg (fun z => ravg a0 a1 a2 a3 _ _ _ z _) (Fin.ext (by dsimp only; omega))

end Cert.AttScores

end
-- ==== Proof.Att.lean ====
/- The attention call: the kernel's result is the reference's, where the queries, the keys and the bias table are
   finite. -/
module

public import proofs.«01_k».proof.Defs
public import proofs.«01_k».proof.Proof.Gen.Kernel.Frame
public import proofs.«01_k».proof.Proof.Gen.Pre_finite_keys
public import proofs.«01_k».proof.Proof.Gen.ReferenceIdeal.Run
public import proofs.«01_k».proof.Proof.AttArrays
public import proofs.«01_k».proof.Proof.AttScores

@[expose] public section

set_option maxRecDepth 16384

noncomputable section

namespace Cert.Att

open Idealize.ShloMosaic Idealize.ShloMosaic.TcCoe Idealize.SL.Sem Cert.KernelIdeal Cert.Rows
open Cert.AttReference (qRow kRow col)
open Cert.AttKernel (keyRow score heads eighth width)
open Cert.AttScores (rscore ravg dist)

/-! ## One row of the two programs -/

/-- The reference's candidate `j` of a chunk among the kernel's of its block of 256 rows. -/
def place (R : Fin 16384) (j : Fin 576) : Fin 768 := ⟨64 * (R.val % 256 / 64) + j.val, by omega⟩

theorem place_inj (R : Fin 16384) : Function.Injective (place R) := fun i j h => by
  have h' := congrArg Fin.val h
  simp only [place] at h'
  exact Fin.ext (by omega)

/-- The kernel's bias of a candidate in a row's block. -/
def tableBias (a3 : FVec Ideal S1x8x257 .f32) (h : Fin 8) (r : Fin 256) (j : Fin 768) : EReal :=
  if 64 * (r.val / 64) ≤ j.val ∧ j.val < 64 * (r.val / 64) + 576 then
    a3 (ix3 0 h ⟨min (640 + r.val - j.val) 256, by omega⟩)
  else ⊥

def seqOf (R : Fin 16384) : Fin 2 := ⟨R.val / 8192, by omega⟩
def chunkOf (R : Fin 16384) : Fin 128 := ⟨R.val % 8192 / 64, by omega⟩
def rowOf (R : Fin 16384) : Fin 64 := ⟨R.val % 64, by omega⟩
def headOf (d : Fin 512) : Fin 8 := ⟨d.val / 64, by omega⟩
def laneOf (d : Fin 512) : Fin 64 := ⟨d.val % 64, by omega⟩

theorem qRow_eq (R : Fin 16384) : qRow (seqOf R) (chunkOf R) (rowOf R) = R :=
  Fin.ext (by simp only [qRow, seqOf, chunkOf, rowOf]; omega)

theorem kRow_eq (R : Fin 16384) (j : Fin 576) (h : 512 ≤ R.val % 8192 / 64 * 64 + j.val) :
    keyRow R (place R j) = kRow (seqOf R) (chunkOf R) j :=
  Fin.ext (by simp only [keyRow, place, kRow, seqOf, chunkOf]; omega)

theorem valid_iff (R : Fin 16384) (j : Fin 576) :
    2 ≤ (place R j).val / 256 + R.val % 8192 / 256 ↔ 512 ≤ (chunkOf R).val * 64 + j.val := by
  simp only [place, chunkOf]
  omega

theorem col_eq (h : Fin 8) (l : Fin 64) (hl : 64 * h.val + l.val < 512) : (⟨64 * h.val + l.val, hl⟩ : Fin 512) = col h l :=
  Fin.ext (by simp only [col]; omega)

theorem col_head (d : Fin 512) : col (headOf d) (laneOf d) = d :=
  Fin.ext (by simp only [col, headOf, laneOf]; omega)

theorem bias_place (a3 : FVec Ideal S1x8x257 .f32) (R : Fin 16384) (h : Fin 8) (j : Fin 576) (hr : R.val % 256 < 256) :
    tableBias a3 h ⟨R.val % 256, hr⟩ (place R j) = a3 (ix3 0 h (dist (rowOf R) j)) := by
  unfold tableBias
  rw [if_pos (by simp only [place]; omega)]
  exact congrArg (fun z => a3 (ix3 0 h z)) (Fin.ext (by simp only [place, AttScores.dist, rowOf]; omega))

theorem bias_off (a3 : FVec Ideal S1x8x257 .f32) (R : Fin 16384) (h : Fin 8) (c : Fin 768) (hr : R.val % 256 < 256)
    (hc : ∀ j, place R j ≠ c) : tableBias a3 h ⟨R.val % 256, hr⟩ c = ⊥ := by
  unfold tableBias
  rw [if_neg]
  rintro ⟨h1, h2⟩
  simp only at h1 h2
  exact hc ⟨c.val - 64 * (R.val % 256 / 64), by omega⟩ (Fin.ext (by simp only [place]; omega))

section
variable (a0 a1 a2 : FVec Ideal S16384x512 .bf16) (a3 : FVec Ideal S1x8x257 .f32)

theorem score_place (R : Fin 16384) (h : Fin 8) (j : Fin 576) :
    score a0 a1 (tableBias a3) R h (place R j) = rscore a0 a1 a3 (seqOf R) (chunkOf R) h (rowOf R) j := by
  unfold score rscore
  by_cases hv : 512 ≤ (chunkOf R).val * 64 + j.val
  · rw [if_pos ((valid_iff R j).2 hv), if_pos hv, bias_place, qRow_eq, kRow_eq R j hv]
    simp only [col_eq]
  · rw [if_neg (fun e => hv ((valid_iff R j).1 e)), if_neg hv]

theorem score_off (R : Fin 16384) (h : Fin 8) (c : Fin 768) (hc : ∀ j, place R j ≠ c) :
    score a0 a1 (tableBias a3) R h c = ⊥ := by
  unfold score
  rw [bias_off a3 R h c _ hc, EReal.add_bot]
  exact ite_self _

variable (h0 : ∀ i j, Fine (a0 (ix2 i j))) (h1 : ∀ i j, Fine (a1 (ix2 i j))) (h3 : ∀ i j, Fine (a3 (ix3 0 i j)))

include h0 h1 h3

theorem rscore_fine (b : Fin 2) (n : Fin 128) (h : Fin 8) (r : Fin 64) (j : Fin 576) (hv : 512 ≤ n.val * 64 + j.val) :
    Fine (rscore a0 a1 a3 b n h r j) := by
  unfold rscore
  rw [if_pos hv]
  exact ((fine_sum _ _ fun _ _ => (h0 _ _).mul (h1 _ _)).mul (fine_coe _)).add (h3 _ _)

theorem rscore_ne_top (b : Fin 2) (n : Fin 128) (h : Fin 8) (r : Fin 64) (j : Fin 576) : rscore a0 a1 a3 b n h r j ≠ ⊤ := by
  by_cases hv : 512 ≤ n.val * 64 + j.val
  · exact (rscore_fine a0 a1 a3 h0 h1 h3 b n h r j hv).2
  · unfold rscore
    rw [if_neg hv]
    exact bot_ne_top

theorem heads_eq (R : Fin 16384) (d : Fin 512) :
    heads a0 a1 a2 (tableBias a3) R d = ravg a0 a1 a2 a3 (seqOf R) (chunkOf R) (headOf d) (rowOf R) (laneOf d) := by
  have ht := rscore_ne_top a0 a1 a3 h0 h1 h3 (seqOf R) (chunkOf R) (headOf d) (rowOf R)
  have hf := (rscore_fine a0 a1 a3 h0 h1 h3 (seqOf R) (chunkOf R) (headOf d) (rowOf R) ⟨512, by omega⟩ (by simp only; omega)).1
  unfold heads ravg
  rw [← avgAfter_eq_avgBefore _ _ ht _ hf]
  refine avgAfter_spread (place R) (place_inj R) _ _ _ _ (score_place a0 a1 a3 R (headOf d)) (score_off a0 a1 a3 R (headOf d))
    (fun j hj => ?_) ht _ hf
  have hv : 512 ≤ (chunkOf R).val * 64 + j.val := by
    by_contra hn
    exact hj (by unfold rscore; rw [if_neg hn])
  rw [AttReference.v31_apply a2 _ _ _ _ _ hv, kRow_eq R j hv, col_head]

theorem reference_apply (a4 : FVec Ideal S1x512 .f32) (i : S16384x512.Idx) :
    Cert.ReferenceIdeal.Read.val_main_v101 (F := Ideal) a0 a1 a2 a3 a4 i
      = rms width (heads a0 a1 a2 (tableBias a3) (i 0)) (fun d => a4 (ix2 0 d)) (i 1) := by
  obtain ⟨R, d, rfl⟩ : ∃ (a : Fin 16384) (b : Fin 512), i = ix2 a b := ⟨i 0, i 1, eq_ix2 i⟩
  rw [AttScores.v101_apply]
  exact congrArg (fun f => rms width f _ d) (funext fun k => (heads_eq a0 a1 a2 a3 h0 h1 h3 R k).symm)

end

/-! ## The claims -/

variable (m : (ℓ : Loc nD τ sig) → Buf (Elt Ideal) ℓ)

/-- What the precondition says of the three operands. -/
theorem fine_of_pre (h : Cert.Pre_KernelIdeal_finite_keys m) (c : Dev nD) :
    (∀ i j, Fine (m ((c.tc : Thread nD τ).loc main_arg0) (ix2 i j)))
    ∧ (∀ i j, Fine (m ((c.tc : Thread nD τ).loc main_arg1) (ix2 i j)))
    ∧ ∀ i j, Fine (m ((c.tc : Thread nD τ).loc main_arg3) (ix3 0 i j)) := by
  have h1 (i : Fin 16384) (j : Fin 512) := congrFun (h c) (ix2 i j)
  revert h1
  pointwise [Cert.Pre_finite_keys.fn, Cert.Pre_finite_keys.fn_pad]
  intro h1
  refine ⟨fun i j => fine_of_test _ (and_one _ _ (and_one _ _ (h1 i j)).1).1,
    fun i j => fine_of_test _ (and_one _ _ (and_one _ _ (h1 i j)).1).2, fun i j => ?_⟩
  have h2 := (and_one _ _ (h1 ⟨i.val, by omega⟩ ⟨j.val, by omega⟩)).2
  rw [dif_pos ⟨i.isLt, j.isLt⟩] at h2
  exact fine_of_test _ h2

theorem frame : Cert.quiescent_Kernel := fun m ρ _ => Cert.Kernel.Gen.frame m ρ

theorem frame_ideal : Cert.quiescent_KernelIdeal := fun m ρ _ => Cert.KernelIdeal.Gen.frame m ρ

theorem frame_ideal_pre : Cert.quiescent_KernelIdeal_pre_finite_keys :=
  fun m ρ _ => Cert.KernelIdeal.Gen.frame m ρ

theorem frame_reference : Cert.quiescent_ReferenceIdeal := fun m ρ _ =>
  (θ_run Cert.ReferenceIdeal.defs _ _).mono (fun r h => ⟨fun c => (h c).2,
    Idealize.ShloMosaic.sem_eq_zero_of_no_sems (by decide) r.2⟩) (Cert.ReferenceIdeal.Value.run (F := Ideal) m ρ)

theorem frame_reference_pre : Cert.quiescent_ReferenceIdeal_pre_finite_keys := fun m ρ _ => frame_reference m ρ trivial

theorem preserves : Cert.preserves_Kernel_KernelIdeal :=
  IdealRules.named_const.statement Cert.KernelIdeal.κ "mask" .f32 0xF149F2CA#32 ⊥ rfl

theorem algebraic : Cert.algebraic_KernelIdeal_ReferenceIdeal_pre_finite_keys := by
  intro m ρ m' ρ' hpre hagree
  refine ⟨fun c => AttArrays.res15 m c, ?_, ?_⟩
  · exact (θ_run Cert.KernelIdeal.defs _ _).mono
      (fun _ h c => ⟨(h c).1.trans (AttArrays.final15 m c), (h c).2⟩) (Cert.KernelIdeal.Value.run_blocks (F := Ideal) m ρ)
  · refine (θ_run Cert.ReferenceIdeal.defs _ _).mono
      (fun _ h c => ⟨(h c).1.trans ?_, (h c).2⟩)
      (Cert.ReferenceIdeal.Value.run (F := Ideal) m' ρ')
    obtain ⟨e0, e1, e2, e3, e4⟩ := hagree c
    obtain ⟨h0, h1, h3⟩ := fine_of_pre m hpre c
    rw [Cert.ReferenceIdeal.Read.val_main_v101_eq]
    show Cert.ReferenceIdeal.Read.val_main_v101 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4)) = _
    rw [e0, e1, e2, e3, e4]
    exact funext fun y => reference_apply _ _ _ _ h0 h1 h3 _ y

end Cert.Att

end
-- ==== Proof.MixSpec.lean ====
/- What one row of the mixing call holds, written on rows of extended reals: the projected row, its normalisation,
   the query, the attention over the memory, and the two further products. -/
module

public import proofs.«01_k».proof.Proof.Rows

@[expose] public section

set_option maxRecDepth 16384

noncomputable section

namespace Cert.MixSpec

open Idealize.ShloMosaic Cert.Rows

/-- The row length as a float. -/
abbrev width : EReal := Ideal.ofBits .f32 0x44800000#32

theorem width_eq : width = ((1024 : ℝ) : EReal) := by
  have h : width = ((8388608 * ((2 : ℝ) ^ 13)⁻¹ : ℝ) : EReal) := by
    unfold width
    simp [Ideal.ofBits, Ideal.ieee]
  rw [h]
  norm_num

/-- The scale of a score. -/
abbrev scale : EReal := Ideal.ofBits .f32 0x3D800000#32

theorem scale_fine : Fine scale := by
  have h : scale = ((8388608 * ((2 : ℝ) ^ 27)⁻¹ : ℝ) : EReal) := by
    unfold scale
    simp [Ideal.ofBits, Ideal.ieee]
  rw [h]
  exact fine_coe _

/-- The row after the output projection of the two halves. -/
def x1 (x : Fin 1024 → EReal) (ya yb : Fin 512 → EReal) (wa wb : Fin 512 → Fin 1024 → EReal) (d : Fin 1024) : EReal :=
  x d + ∑ k, ya k * wa k d + ∑ k, yb k * wb k d

/-- A normalised row times a matrix. -/
def proj {n : ℕ} (f g : Fin 1024 → EReal) (w : Fin 1024 → Fin n → EReal) (d : Fin n) : EReal :=
  ∑ k, rms width f g k * w k d

/-- Entry `e` of the head that entry `k` lies in. -/
def lane (k : Fin 1024) (e : Fin 256) : Fin 1024 := ⟨k.val / 256 * 256 + e.val, by omega⟩

/-- The scores of a query row against the memory's keys, in the head of entry `k`. -/
def score (q : Fin 1024 → EReal) (km : Fin 256 → Fin 1024 → EReal) (k : Fin 1024) (j : Fin 256) : EReal :=
  (∑ e, q (lane k e) * km j (lane k e)) * scale

/-- Entry `k` of the attention over the memory. -/
def att (q : Fin 1024 → EReal) (km vm : Fin 256 → Fin 1024 → EReal) (k : Fin 1024) : EReal :=
  avgAfter (score q km k) fun j => vm j k

/-- A row and a second row's product with a matrix. -/
def plus (f o : Fin 1024 → EReal) (w : Fin 1024 → Fin 1024 → EReal) (d : Fin 1024) : EReal :=
  f d + ∑ k, o k * w k d

/-- One head of the attention, its entries counted from the head's first. -/
theorem att_head (q : Fin 1024 → EReal) (km vm : Fin 256 → Fin 1024 → EReal) (o : ℕ) (ho : o + 256 ≤ 1024)
    (hd : o / 256 * 256 = o) (k : Fin 1024) (e : Fin 256) (hk : k.val = o + e.val) :
    att q km vm k =
      avgAfter (fun j => (∑ x : Fin 256, q ⟨o + x.val, by omega⟩ * km j ⟨o + x.val, by omega⟩) * scale)
        fun j => vm j ⟨o + e.val, by omega⟩ := by
  have hs : score q km k = fun j => (∑ x : Fin 256, q ⟨o + x.val, by omega⟩ * km j ⟨o + x.val, by omega⟩) * scale := by
    funext j
    unfold score
    congr 1
    refine Finset.sum_congr rfl fun x _ => ?_
    have : lane k x = ⟨o + x.val, by omega⟩ := Fin.ext (by show k.val / 256 * 256 + x.val = o + x.val; omega)
    rw [this]
  have hv : k = ⟨o + e.val, by omega⟩ := Fin.ext hk
  unfold att
  rw [hs]
  congr 1
  funext j
  exact congrArg (vm j) hv

/-- The scores are real where the query and the keys are. -/
theorem score_fine (q : Fin 1024 → EReal) (km : Fin 256 → Fin 1024 → EReal) (hq : ∀ k, Fine (q k))
    (hk : ∀ j k, Fine (km j k)) (k : Fin 1024) (j : Fin 256) : Fine (score q km k j) :=
  (fine_sum _ _ fun _ _ => (hq _).mul (hk _ _)).mul scale_fine

theorem proj_fine {n : ℕ} (f g : Fin 1024 → EReal) (w : Fin 1024 → Fin n → EReal) (hg : ∀ k, Fine (g k))
    (hw : ∀ k d, Fine (w k d)) (d : Fin n) : Fine (proj f g w d) :=
  fine_sum _ _ fun k _ => by
    rw [width_eq]
    exact (rms_fine 1024 (by norm_num) f g k (hg k)).mul (hw k d)

end Cert.MixSpec

end
-- ==== Proof.MixKernel.lean ====
/- The mixing call's body at an index: each of its three results, as rows of extended reals. -/
module

public import proofs.«01_k».proof.Proof.Gen.Kernel2Ideal.Value
public import proofs.«01_k».proof.Proof.MixSpec
public import Idealize.ShloMosaic.Lib.Pipeline.ValueKit
public import Idealize.ShloMosaic.Lib.Pointwise

@[expose] public section

set_option maxRecDepth 16384

noncomputable section

namespace Cert.MixKernel

open Idealize.ShloMosaic Cert.Kernel2Ideal Cert.Kernel2Ideal.Gen Cert.Rows Cert.MixSpec

variable (x0 : Vec Ideal S1024x1024 .f32) (x1 x2 : Vec Ideal S1024x512 .bf16) (x3 x4 : Vec Ideal S512x1024 .bf16)
  (x5 : Vec Ideal S1x1024 .f32) (x6 : Vec Ideal S1024x1024 .bf16) (x7 x8 : Vec Ideal S256x1024 .bf16)
  (x9 : Vec Ideal S1024x1024 .bf16) (x10 : Vec Ideal S1x1024 .f32) (x11 : Vec Ideal S1024x2048 .bf16)

/-- Row `r` of the body's first sum. -/
abbrev rowX1 (r : Fin 1024) : Fin 1024 → EReal :=
  MixSpec.x1 (fun d => x0 (ix2 r d)) (fun k => x1 (ix2 r k)) (fun k => x2 (ix2 r k)) (fun k d => x3 (ix2 k d))
    fun k d => x4 (ix2 k d)

theorem pay4_apply (r d : Fin 1024) : k0_pay4 x0 x1 x3 x2 x4 (ix2 r d) = rowX1 x0 x1 x2 x3 x4 r d := by
  pointwise [k0_pay4]
  rfl

theorem pay5_apply (r d : Fin 1024) :
    k0_pay5 x0 x1 x3 x2 x4 x5 x6 (ix2 r d)
      = proj (rowX1 x0 x1 x2 x3 x4 r) (fun d => x5 (ix2 0 d)) (fun k d => x6 (ix2 k d)) d := by
  pointwise [k0_pay5]
  simp only [pay4_apply]
  rfl

/-- Row `r` of the body's query. -/
abbrev rowQ (r : Fin 1024) : Fin 1024 → EReal :=
  proj (rowX1 x0 x1 x2 x3 x4 r) (fun d => x5 (ix2 0 d)) fun k d => x6 (ix2 k d)

/-- Row `r` of the body's attention. -/
abbrev rowO (r : Fin 1024) : Fin 1024 → EReal :=
  att (rowQ x0 x1 x2 x3 x4 x5 x6 r) (fun j k => x7 (ix2 j k)) fun j k => x8 (ix2 j k)

/-- Row `r` of the body's second sum. -/
abbrev rowX2 (r : Fin 1024) : Fin 1024 → EReal :=
  plus (rowX1 x0 x1 x2 x3 x4 r) (rowO x0 x1 x2 x3 x4 x5 x6 x7 x8 r) fun k d => x9 (ix2 k d)

/-- A load of 256 columns from column `o`. -/
theorem ld_cols (x : Vec Ideal S256x1024 .bf16) (o : ℕ) (ho : o + 256 ≤ 1024) (inb) (j e : Fin 256) :
    View.ld x (Rect.unit (s := S256x1024) ![0, o] S256x256.size inb) (ix2 j e) = x (ix2 j ⟨o + e.val, by omega⟩) :=
  View.ld_unit_apply_of x _ _ inb (ix2 j e) (ix2 j ⟨o + e.val, by omega⟩) fun a => by
    match a with
    | ⟨0, _⟩ => exact (Nat.zero_add _).symm
    | ⟨1, _⟩ => rfl

theorem pay14_apply (r d : Fin 1024) :
    k0_pay14 x0 x1 x2 x3 x4 x5 x6 x7 x8 x9 x10 x11 (ix2 r d) = rowX2 x0 x1 x2 x3 x4 x5 x6 x7 x8 x9 r d := by
  unfold k0_pay14 k0_pay13
  simp (disch := decide) only [View.ld_unit_lit, ld_cols]
  pointwise [k0_pay12, k0_pay6, k0_pay7, k0_pay8, k0_pay9, k0_pay10, k0_pay11]
  simp only [pay4_apply, pay5_apply, ofBits_neg_inf]
  show _ = rowX1 x0 x1 x2 x3 x4 r d + ∑ k, rowO x0 x1 x2 x3 x4 x5 x6 x7 x8 r k * x9 (ix2 k d)
  refine congrArg (HAdd.hAdd _) (Finset.sum_congr rfl fun k _ => congrArg (fun z => z * x9 (ix2 k d)) ?_)
  by_cases h : k.val < 256
  · rw [dif_pos h]
    have := att_head (rowQ x0 x1 x2 x3 x4 x5 x6 r) (fun j k => x7 (ix2 j k)) (fun j k => x8 (ix2 j k)) 0
      (by omega) (by norm_num) k ⟨k.val, h⟩ (by simp)
    simp only [avgAfter, total, weight, peak, Nat.zero_add] at this
    exact this.symm
  rw [dif_neg h]
  by_cases h' : k.val - 256 < 256
  · rw [dif_pos h']
    have := att_head (rowQ x0 x1 x2 x3 x4 x5 x6 r) (fun j k => x7 (ix2 j k)) (fun j k => x8 (ix2 j k)) 256
      (by omega) (by norm_num) k ⟨k.val - 256, h'⟩ (by show k.val = 256 + (k.val - 256); omega)
    simp only [avgAfter, total, weight, peak] at this
    exact this.symm
  rw [dif_neg h']
  by_cases h'' : k.val - 256 - 256 < 256
  · rw [dif_pos h'']
    have := att_head (rowQ x0 x1 x2 x3 x4 x5 x6 r) (fun j k => x7 (ix2 j k)) (fun j k => x8 (ix2 j k)) 512
      (by omega) (by norm_num) k ⟨k.val - 256 - 256, h''⟩
      (by show k.val = 512 + (k.val - 256 - 256); omega)
    simp only [avgAfter, total, weight, peak] at this
    exact this.symm
  rw [dif_neg h'']
  have := att_head (rowQ x0 x1 x2 x3 x4 x5 x6 r) (fun j k => x7 (ix2 j k)) (fun j k => x8 (ix2 j k)) 768
    (by omega) (by norm_num) k ⟨k.val - 256 - 256 - 256, by omega⟩
    (by show k.val = 768 + (k.val - 256 - 256 - 256); omega)
  simp only [avgAfter, total, weight, peak] at this
  exact this.symm

/-- The first result's block. -/
theorem out12_apply (r d : Fin 1024) :
    out0_12 x0 x1 x2 x3 x4 x5 x6 x7 x8 x9 x10 x11 (ix2 r d) = rowX2 x0 x1 x2 x3 x4 x5 x6 x7 x8 x9 r d := by
  unfold out0_12
  rw [View.canon_cons_unit_lit _ _ _ (by decide)]
  exact pay14_apply ..

/-- The second result's block, transposed. -/
theorem out13_apply (d r : Fin 1024) :
    out0_13 x0 x1 x2 x3 x4 x5 x6 x7 x8 x9 x10 x11 (ix2 d r)
      = rms width (rowX2 x0 x1 x2 x3 x4 x5 x6 x7 x8 x9 r) (fun d => x10 (ix2 0 d)) d := by
  unfold out0_13
  rw [View.canon_cons_unit_lit _ _ _ (by decide)]
  simp (disch := decide) only [View.ld_unit_lit]
  pointwise [k0_pay2, k0_pay1]
  simp only [pay14_apply]
  rfl

/-- The third result's block. -/
theorem out14_apply (r : Fin 1024) (d : Fin 2048) :
    out0_14 x0 x1 x2 x3 x4 x5 x6 x7 x8 x9 x10 x11 (ix2 r d)
      = proj (rowX2 x0 x1 x2 x3 x4 x5 x6 x7 x8 x9 r) (fun d => x10 (ix2 0 d)) (fun k d => x11 (ix2 k d)) d := by
  unfold out0_14
  rw [View.canon_cons_unit_lit _ _ _ (by decide)]
  simp (disch := decide) only [View.ld_unit_lit]
  pointwise [k0_pay3, k0_pay1]
  simp only [pay14_apply]
  rfl

end Cert.MixKernel

end
-- ==== Proof.MixReference.lean ====
/- The mixing reference at an index: its three results, as rows of extended reals. -/
module

public import proofs.«01_k».proof.Proof.Gen.Reference2Ideal.Read
public import proofs.«01_k».proof.Proof.MixSpec
public import Idealize.ShloMosaic.Lib.Pipeline.ValueKit
public import Idealize.ShloMosaic.Lib.Pointwise

@[expose] public section

set_option maxRecDepth 16384

noncomputable section

namespace Cert.MixReference

open Idealize.ShloMosaic Cert.Reference2Ideal Cert.Reference2Ideal.Gen Cert.Reference2Ideal.Read Cert.Rows Cert.MixSpec

variable (a0 : (⟨S2x8192x1024, .f32⟩ : BufTy).Contents (Elt Ideal)) (a1 a2 : (⟨S16384x512, .bf16⟩ : BufTy).Contents (Elt Ideal))
  (a3 : (⟨S1x1024x1024, .f32⟩ : BufTy).Contents (Elt Ideal)) (a4 : (⟨S1x1024, .f32⟩ : BufTy).Contents (Elt Ideal))
  (a5 : (⟨S1x1024x1024, .f32⟩ : BufTy).Contents (Elt Ideal)) (a6 a7 : (⟨S512x1024, .bf16⟩ : BufTy).Contents (Elt Ideal))
  (a8 : (⟨S1x1024x1024, .f32⟩ : BufTy).Contents (Elt Ideal)) (a9 : (⟨S1x1024, .f32⟩ : BufTy).Contents (Elt Ideal))
  (a10 : (⟨S1x1024x2048, .f32⟩ : BufTy).Contents (Elt Ideal))

/-- Row `s` of batch `b` in the flat arrays. -/
def flat (b : Fin 2) (s : Fin 8192) : Fin 16384 := ⟨b.val * 8192 + s.val, by omega⟩

/-- Row `j` of the memory of batch `b`. -/
def mem (b : Fin 2) (j : Fin 256) : Fin 512 := ⟨b.val * 256 + j.val, by omega⟩

/-- Row `s` of batch `b` of the first sum. -/
abbrev rowX1 (b : Fin 2) (s : Fin 8192) : Fin 1024 → EReal :=
  MixSpec.x1 (fun d => a0 (ix3 b s d)) (fun k => a1 (ix2 (flat b s) k)) (fun k => a2 (ix2 (flat b s) k))
    (fun k d => a3 (ix3 0 ⟨k.val, by omega⟩ d)) fun k d => a3 (ix3 0 ⟨512 + k.val, by omega⟩ d)

theorem v7_apply (b : Fin 2) (s : Fin 8192) (d : Fin 1024) :
    val_main_v7 (F := Ideal) a0 a1 a2 a3 (ix3 b s d) = rowX1 a0 a1 a2 a3 b s d := by
  pointwise [val_main_v7, val_main_v6, val_main_v5, val_main_v4, val_main_v3, val_main_v2, val_main_v1, val_main_v0]
  rw [← add_assoc]
  rfl

/-- Row `s` of batch `b` of the query. -/
abbrev rowQ (b : Fin 2) (s : Fin 8192) : Fin 1024 → EReal :=
  proj (rowX1 a0 a1 a2 a3 b s) (fun d => a4 (ix2 0 d)) fun k d => a5 (ix3 0 k d)

theorem v28_apply (b : Fin 2) (s : Fin 8192) (d : Fin 1024) :
    val_main_v28 (F := Ideal) a0 a1 a2 a3 a4 a5 (ix3 b s d) = rowQ a0 a1 a2 a3 a4 a5 b s d := by
  pointwise [val_main_v28, val_main_v26, val_main_v21, val_main_v20, val_main_v19, val_main_v18, val_main_v17,
    val_main_v16, val_main_v15, val_main_v14, val_main_cst_1, val_main_v13, val_main_v12, val_main_cst_0, val_main_v11,
    val_main_v10, val_main_cst, val_main_v9, val_main_v8]
  simp only [v7_apply]
  rfl

/-- Row `s` of batch `b` of the attention. -/
abbrev rowO (b : Fin 2) (s : Fin 8192) (k : Fin 1024) : EReal :=
  avgBefore (score (rowQ a0 a1 a2 a3 a4 a5 b s) (fun j k => a6 (ix2 (mem b j) k)) k) fun j => a7 (ix2 (mem b j) k)

theorem v32_apply (b : Fin 2) (h : Fin 4) (s : Fin 8192) (j : Fin 256) :
    val_main_v32 (F := Ideal) a0 a1 a2 a3 a4 a5 a6 (ix4 b h s j)
      = score (rowQ a0 a1 a2 a3 a4 a5 b s) (fun j k => a6 (ix2 (mem b j) k)) ⟨h.val * 256, by omega⟩ j := by
  pointwise [val_main_v32, val_main_v31, val_main_cst_2, val_main_v30, val_main_v29, val_main_v23, val_main_v22]
  simp only [v28_apply]
  have lane_eq (e : Fin 256) : lane ⟨h.val * 256, by omega⟩ e = ⟨h.val * 256 + e.val, by omega⟩ :=
    Fin.ext (by show h.val * 256 / 256 * 256 + e.val = h.val * 256 + e.val; omega)
  unfold score
  simp only [lane_eq]
  rfl

theorem v33_apply (b : Fin 2) (h : Fin 4) (s : Fin 8192) :
    val_main_v33 (F := Ideal) a0 a1 a2 a3 a4 a5 a6 (ix3 b h s)
      = peak fun j => val_main_v32 (F := Ideal) a0 a1 a2 a3 a4 a5 a6 (ix4 b h s j) := by
  unfold val_main_v33
  generalize val_main_v32 (F := Ideal) a0 a1 a2 a3 a4 a5 a6 = y
  pointwise [val_main_cst_3]
  rw [ofBits_neg_inf]
  rfl

theorem v36_apply (b : Fin 2) (h : Fin 4) (s : Fin 8192) :
    val_main_v36 (F := Ideal) a0 a1 a2 a3 a4 a5 a6 (ix4 b h s 0)
      = peak fun j => val_main_v32 (F := Ideal) a0 a1 a2 a3 a4 a5 a6 (ix4 b h s j) := by
  have e : val_main_v36 (F := Ideal) a0 a1 a2 a3 a4 a5 a6 (ix4 b h s 0)
      = val_main_v35 (F := Ideal) a0 a1 a2 a3 a4 a5 a6 (ix3 b h s) := by
    unfold val_main_v36
    generalize val_main_v35 (F := Ideal) a0 a1 a2 a3 a4 a5 a6 = y
    pointwise
  have z : val_main_v34 (F := Ideal) (ix3 b h s) = ⊥ := by
    pointwise [val_main_v34, val_main_cst_4]
    exact ofBits_neg_inf
  rw [e, val_main_v35_apply, z, v33_apply]
  generalize (peak fun j => val_main_v32 (F := Ideal) a0 a1 a2 a3 a4 a5 a6 (ix4 b h s j)) = y
  exact max_eq_right bot_le

theorem v39_apply (b : Fin 2) (h : Fin 4) (s : Fin 8192) (j : Fin 256) :
    val_main_v39 (F := Ideal) a0 a1 a2 a3 a4 a5 a6 (ix4 b h s j)
      = weight (fun j => val_main_v32 (F := Ideal) a0 a1 a2 a3 a4 a5 a6 (ix4 b h s j)) j := by
  unfold weight
  rw [← v36_apply]
  unfold val_main_v39 val_main_v38 val_main_v37
  generalize val_main_v36 (F := Ideal) a0 a1 a2 a3 a4 a5 a6 = y
  generalize val_main_v32 (F := Ideal) a0 a1 a2 a3 a4 a5 a6 = z
  pointwise

theorem v43_apply (b : Fin 2) (h : Fin 4) (s : Fin 8192) (j : Fin 256) :
    val_main_v43 (F := Ideal) a0 a1 a2 a3 a4 a5 a6 (ix4 b h s j)
      = Ideal.div
        (weight (score (rowQ a0 a1 a2 a3 a4 a5 b s) (fun j k => a6 (ix2 (mem b j) k)) ⟨h.val * 256, by omega⟩) j)
        (total (score (rowQ a0 a1 a2 a3 a4 a5 b s) (fun j k => a6 (ix2 (mem b j) k)) ⟨h.val * 256, by omega⟩)) := by
  rw [← funext (v32_apply a0 a1 a2 a3 a4 a5 a6 b h s)]
  unfold total
  simp only [← v39_apply]
  unfold val_main_v43 val_main_v42 val_main_v41 val_main_v40
  generalize val_main_v39 (F := Ideal) a0 a1 a2 a3 a4 a5 a6 = y
  pointwise [val_main_cst_5]

theorem v46_apply (b : Fin 2) (s : Fin 8192) (k : Fin 1024) :
    val_main_v46 (F := Ideal) a0 a1 a2 a3 a4 a5 a6 a7 (ix3 b s k) = rowO a0 a1 a2 a3 a4 a5 a6 a7 b s k := by
  have hp := v43_apply a0 a1 a2 a3 a4 a5 a6
  unfold val_main_v46 val_main_v45 val_main_v44
  revert hp
  generalize val_main_v43 (F := Ideal) a0 a1 a2 a3 a4 a5 a6 = y
  intro hp
  pointwise [val_main_v25, val_main_v24]
  simp only [hp]
  unfold rowO avgBefore
  refine Finset.sum_congr rfl fun j _ => ?_
  rw [mul_comm]
  have hl : lane (⟨k.val / 256 * 256, by omega⟩ : Fin 1024) = lane k := by
    funext x
    exact Fin.ext (by show k.val / 256 * 256 / 256 * 256 + x.val = k.val / 256 * 256 + x.val; omega)
  unfold score
  rw [hl]
  rfl

/-- Row `s` of batch `b` of the second sum. -/
abbrev rowX2 (b : Fin 2) (s : Fin 8192) : Fin 1024 → EReal :=
  plus (rowX1 a0 a1 a2 a3 b s) (rowO a0 a1 a2 a3 a4 a5 a6 a7 b s) fun k d => a8 (ix3 0 k d)

theorem v48_apply (b : Fin 2) (s : Fin 8192) (d : Fin 1024) :
    val_main_v48 (F := Ideal) a0 a1 a2 a3 a4 a5 a6 a7 a8 (ix3 b s d) = rowX2 a0 a1 a2 a3 a4 a5 a6 a7 a8 b s d := by
  have h1 := v7_apply a0 a1 a2 a3
  have h2 := v46_apply a0 a1 a2 a3 a4 a5 a6 a7
  unfold val_main_v48 val_main_v47
  revert h1 h2
  generalize val_main_v7 (F := Ideal) a0 a1 a2 a3 = y
  generalize val_main_v46 (F := Ideal) a0 a1 a2 a3 a4 a5 a6 a7 = z
  intro h1 h2
  pointwise [val_main_v27]
  simp only [h1, h2]
  rfl

theorem v62_apply (b : Fin 2) (s : Fin 8192) (d : Fin 1024) :
    val_main_v62 (F := Ideal) a0 a1 a2 a3 a4 a5 a6 a7 a8 a9 (ix3 b s d)
      = rms width (rowX2 a0 a1 a2 a3 a4 a5 a6 a7 a8 b s) (fun d => a9 (ix2 0 d)) d := by
  have h := v48_apply a0 a1 a2 a3 a4 a5 a6 a7 a8
  unfold val_main_v62 val_main_v59 val_main_v58 val_main_v57 val_main_v56 val_main_v54 val_main_v52 val_main_v51
    val_main_v50
  revert h
  generalize val_main_v48 (F := Ideal) a0 a1 a2 a3 a4 a5 a6 a7 a8 = y
  intro h
  pointwise [val_main_v61, val_main_v60, val_main_v49, val_main_v55, val_main_cst_8, val_main_v53, val_main_cst_7,
    val_main_cst_6]
  simp only [h]
  rfl

/-- The batch of a flat row. -/
def batch (n : Fin 16384) : Fin 2 := ⟨n.val / 8192, by omega⟩

/-- The position of a flat row in its batch. -/
def pos (n : Fin 16384) : Fin 8192 := ⟨n.val % 8192, by omega⟩

theorem v65_apply (n : Fin 16384) (d : Fin 1024) :
    val_main_v65 (F := Ideal) a0 a1 a2 a3 a4 a5 a6 a7 a8 (ix2 n d)
      = rowX2 a0 a1 a2 a3 a4 a5 a6 a7 a8 (batch n) (pos n) d := by
  have h := v48_apply a0 a1 a2 a3 a4 a5 a6 a7 a8
  unfold val_main_v65
  revert h
  generalize val_main_v48 (F := Ideal) a0 a1 a2 a3 a4 a5 a6 a7 a8 = y
  intro h
  pointwise
  exact h _ _ _

theorem v68_apply (d : Fin 1024) (n : Fin 16384) :
    val_main_v68 (F := Ideal) a0 a1 a2 a3 a4 a5 a6 a7 a8 a9 (ix2 d n)
      = rms width (rowX2 a0 a1 a2 a3 a4 a5 a6 a7 a8 (batch n) (pos n)) (fun d => a9 (ix2 0 d)) d := by
  have h := v62_apply a0 a1 a2 a3 a4 a5 a6 a7 a8 a9
  unfold val_main_v68 val_main_v67 val_main_v66
  revert h
  generalize val_main_v62 (F := Ideal) a0 a1 a2 a3 a4 a5 a6 a7 a8 a9 = y
  intro h
  pointwise
  exact h _ _ _

theorem v70_apply (n : Fin 16384) (d : Fin 2048) :
    val_main_v70 (F := Ideal) a0 a1 a2 a3 a4 a5 a6 a7 a8 a9 a10 (ix2 n d)
      = proj (rowX2 a0 a1 a2 a3 a4 a5 a6 a7 a8 (batch n) (pos n)) (fun d => a9 (ix2 0 d)) (fun k d => a10 (ix3 0 k d)) d := by
  have h := v62_apply a0 a1 a2 a3 a4 a5 a6 a7 a8 a9
  unfold val_main_v70 val_main_v69 val_main_v64
  revert h
  generalize val_main_v62 (F := Ideal) a0 a1 a2 a3 a4 a5 a6 a7 a8 a9 = y
  intro h
  pointwise [val_main_v63]
  simp only [h]
  rfl

end Cert.MixReference

end
-- ==== Proof.MixArrays.lean ====
/- The mixing kernel's arrays: what a block of each operand reads, and the three results as arrays of rows. -/
module

public import proofs.«01_k».proof.Proof.Gen.Kernel2Ideal.Value
public import proofs.«01_k».proof.Proof.MixKernel
public import proofs.«01_k».proof.Proof.MixReference
public import Idealize.ShloMosaic.Lib.Pipeline.ValueKit
public import Idealize.ShloMosaic.Lib.Pointwise

@[expose] public section

set_option maxRecDepth 16384

noncomputable section

namespace Cert.MixArrays

open Idealize.ShloMosaic Idealize.ShloMosaic.TcCoe Cert.Kernel2Ideal Cert.Kernel2Ideal.Gen Cert.Rows Cert.MixSpec
open Cert.MixReference (batch pos)

variable (m : (ℓ : Loc nD τ sig) → Buf (Elt Ideal) ℓ) (c : Dev nD)

/-- The grid point's number is below 16. -/
theorem lt16 (t : Fin cfg0.N) : t.val < 16 := lt_of_lt_of_eq t.isLt N_0

/-- The array row that row `r` of block `t` is. -/
def row (t : Fin cfg0.N) (r : Fin 1024) : Fin 16384 := ⟨t.val * 1024 + r.val, by have := lt16 t; omega⟩

theorem idx (t : Fin cfg0.N) :
    win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![t.val / 8, 0] ∧ win0_8.index t = ![t.val / 8, 0] ∧ win0_9.index t = ![0, 0]
    ∧ win0_10.index t = ![0, 0] ∧ win0_11.index t = ![0, 0] ∧ win0_12.index t = ![t.val, 0]
    ∧ win0_13.index t = ![0, t.val] ∧ win0_14.index t = ![t.val, 0] :=
  (by decide +kernel : ∀ t : Fin grid0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![t.val / 8, 0] ∧ win0_8.index t = ![t.val / 8, 0] ∧ win0_9.index t = ![0, 0]
    ∧ win0_10.index t = ![0, 0] ∧ win0_11.index t = ![0, 0] ∧ win0_12.index t = ![t.val, 0]
    ∧ win0_13.index t = ![0, t.val] ∧ win0_14.index t = ![t.val, 0]) t

theorem in0 (t : Fin cfg0.N) (r : Fin 1024) (d : Fin 1024) :
    iblk m c 0 t (ix2 r d) = m ((c : Thread nD τ).loc main_arg0) (ix3 (batch (row t r)) (pos (row t r)) d) := by
  have e : iblk m c 0 t (ix2 r d) = V m c main_v2 (ix2 (row t r) d) := by
    blk_ext [iblk, idx t]
    rfl
  rw [e]
  entry_read
  pointwise
  rfl

theorem in1 (t : Fin cfg0.N) (r : Fin 1024) (d : Fin 512) :
    iblk m c 1 t (ix2 r d) = m ((c : Thread nD τ).loc main_arg1) (ix2 (row t r) d) := by
  blk_ext [iblk, V, idx t]
  rfl

theorem in2 (t : Fin cfg0.N) (r : Fin 1024) (d : Fin 512) :
    iblk m c 2 t (ix2 r d) = m ((c : Thread nD τ).loc main_arg2) (ix2 (row t r) d) := by
  blk_ext [iblk, V, idx t]
  rfl

theorem in3 (t : Fin cfg0.N) (r : Fin 512) (d : Fin 1024) :
    iblk m c 3 t (ix2 r d) = m ((c : Thread nD τ).loc main_arg3) (ix3 0 ⟨r.val, by omega⟩ d) := by
  have e : iblk m c 3 t (ix2 r d) = V m c main_v3 (ix2 r d) := by
    blk_ext [iblk, idx t]
  rw [e]
  entry_read
  pointwise

theorem in4 (t : Fin cfg0.N) (r : Fin 512) (d : Fin 1024) :
    iblk m c 4 t (ix2 r d) = m ((c : Thread nD τ).loc main_arg3) (ix3 0 ⟨512 + r.val, by omega⟩ d) := by
  have e : iblk m c 4 t (ix2 r d) = V m c main_v4 (ix2 r d) := by
    blk_ext [iblk, idx t]
  rw [e]
  entry_read
  pointwise

theorem in5 (t : Fin cfg0.N) (r : Fin 1) (d : Fin 1024) :
    iblk m c 5 t (ix2 r d) = m ((c : Thread nD τ).loc main_arg4) (ix2 0 d) := by
  have e : iblk m c 5 t (ix2 r d) = V m c main_v6 (ix2 r d) := by
    blk_ext [iblk, idx t]
  rw [e]
  entry_read
  pointwise

theorem in6 (t : Fin cfg0.N) (r : Fin 1024) (d : Fin 1024) :
    iblk m c 6 t (ix2 r d) = m ((c : Thread nD τ).loc main_arg5) (ix3 0 r d) := by
  have e : iblk m c 6 t (ix2 r d) = V m c main_v8 (ix2 r d) := by
    blk_ext [iblk, idx t]
  rw [e]
  entry_read
  pointwise

theorem in7 (t : Fin cfg0.N) (r : Fin 256) (d : Fin 1024) :
    iblk m c 7 t (ix2 r d) = m ((c : Thread nD τ).loc main_arg6) (ix2 (MixReference.mem ⟨t.val / 8, by have := lt16 t; omega⟩ r) d) := by
  blk_ext [iblk, V, idx t]
  rfl

theorem in8 (t : Fin cfg0.N) (r : Fin 256) (d : Fin 1024) :
    iblk m c 8 t (ix2 r d) = m ((c : Thread nD τ).loc main_arg7) (ix2 (MixReference.mem ⟨t.val / 8, by have := lt16 t; omega⟩ r) d) := by
  blk_ext [iblk, V, idx t]
  rfl

theorem in9 (t : Fin cfg0.N) (r : Fin 1024) (d : Fin 1024) :
    iblk m c 9 t (ix2 r d) = m ((c : Thread nD τ).loc main_arg8) (ix3 0 r d) := by
  have e : iblk m c 9 t (ix2 r d) = V m c main_v10 (ix2 r d) := by
    blk_ext [iblk, idx t]
  rw [e]
  entry_read
  pointwise

theorem in10 (t : Fin cfg0.N) (r : Fin 1) (d : Fin 1024) :
    iblk m c 10 t (ix2 r d) = m ((c : Thread nD τ).loc main_arg9) (ix2 0 d) := by
  have e : iblk m c 10 t (ix2 r d) = V m c main_v12 (ix2 r d) := by
    blk_ext [iblk, idx t]
  rw [e]
  entry_read
  pointwise

theorem in11 (t : Fin cfg0.N) (r : Fin 1024) (d : Fin 2048) :
    iblk m c 11 t (ix2 r d) = m ((c : Thread nD τ).loc main_arg10) (ix3 0 r d) := by
  have e : iblk m c 11 t (ix2 r d) = V m c main_v14 (ix2 r d) := by
    blk_ext [iblk, idx t]
  rw [e]
  entry_read
  pointwise

theorem flat_batch_pos (n : Fin 16384) : MixReference.flat (batch n) (pos n) = n :=
  Fin.ext (by show n.val / 8192 * 8192 + n.val % 8192 = n.val; omega)

theorem batch_row (t : Fin cfg0.N) (r : Fin 1024) : batch (row t r) = ⟨t.val / 8, by have := lt16 t; omega⟩ :=
  Fin.ext (by show (t.val * 1024 + r.val) / 8192 = t.val / 8; omega)

/-- Row `n` of the second sum, with the attention's total divided out after the weighted sum. -/
def rowX2 (n : Fin 16384) : Fin 1024 → EReal :=
  plus
    (MixReference.rowX1 (m ((c : Thread nD τ).loc main_arg0)) (m ((c : Thread nD τ).loc main_arg1))
      (m ((c : Thread nD τ).loc main_arg2)) (m ((c : Thread nD τ).loc main_arg3)) (batch n) (pos n))
    (att
      (MixReference.rowQ (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (batch n) (pos n))
      (fun j k => m ((c : Thread nD τ).loc main_arg6) (ix2 (MixReference.mem (batch n) j) k))
      fun j k => m ((c : Thread nD τ).loc main_arg7) (ix2 (MixReference.mem (batch n) j) k))
    fun k d => m ((c : Thread nD τ).loc main_arg8) (ix3 0 k d)

/-- The gain of the second norm. -/
def gain (d : Fin 1024) : EReal := m ((c : Thread nD τ).loc main_arg9) (ix2 0 d)

/-- The last projection's matrix. -/
def mat (k : Fin 1024) (d : Fin 2048) : EReal := m ((c : Thread nD τ).loc main_arg10) (ix3 0 k d)

theorem block_row (t : Fin cfg0.N) (r : Fin 1024) :
    MixKernel.rowX2 (iblk m c 0 t) (iblk m c 1 t) (iblk m c 2 t) (iblk m c 3 t) (iblk m c 4 t) (iblk m c 5 t)
      (iblk m c 6 t) (iblk m c 7 t) (iblk m c 8 t) (iblk m c 9 t) r = rowX2 m c (row t r) := by
  unfold MixKernel.rowX2 MixKernel.rowO MixKernel.rowQ MixKernel.rowX1 rowX2 MixReference.rowQ MixReference.rowX1
  simp only [in0, in1, in2, in3, in4, in5, in6, in7, in8, in9, flat_batch_pos]
  simp only [batch_row]

/-- Result 1 of the call, as an array. -/
def res12 : (⟨S16384x1024, .f32⟩ : BufTy).Contents (Elt Ideal) := fun i => rowX2 m c (i 0) (i 1)

theorem emb12 (t : Fin cfg0.N) (r : Fin 1024) (d : Fin 1024) : ((cfg0.win 12).blk t).view.emb (ix2 r d) = ix2 (row t r) d := by
  blk_ext [idx t]
  rfl

theorem final12 : (dats m 0 c).arrAt 12 cfg0.N = res12 m c := by
  refine (dats m 0 c).arrAt_eq_of_covers 12 _ (by decide +kernel) fun t hf y => ?_
  idx_vars y
  rw [emb12]
  blk_simp
  rw [after0_12, MixKernel.out12_apply, block_row]
  rfl

/-- Result 2 of the call, as an array. -/
def res13 : (⟨S1024x16384, .bf16⟩ : BufTy).Contents (Elt Ideal) := fun i => rms width (rowX2 m c (i 1)) (gain m c) (i 0)

theorem emb13 (t : Fin cfg0.N) (d : Fin 1024) (r : Fin 1024) : ((cfg0.win 13).blk t).view.emb (ix2 d r) = ix2 d (row t r) := by
  blk_ext [idx t]
  rfl

theorem final13 : (dats m 0 c).arrAt 13 cfg0.N = res13 m c := by
  refine (dats m 0 c).arrAt_eq_of_covers 13 _ (by decide +kernel) fun t hf y => ?_
  idx_vars y
  rw [emb13]
  blk_simp
  rw [after0_13, MixKernel.out13_apply, block_row]
  simp only [in10]
  rfl

/-- Result 3 of the call, as an array. -/
def res14 : (⟨S16384x2048, .bf16⟩ : BufTy).Contents (Elt Ideal) := fun i => proj (rowX2 m c (i 0)) (gain m c) (mat m c) (i 1)

theorem emb14 (t : Fin cfg0.N) (r : Fin 1024) (d : Fin 2048) : ((cfg0.win 14).blk t).view.emb (ix2 r d) = ix2 (row t r) d := by
  blk_ext [idx t]
  rfl

theorem final14 : (dats m 0 c).arrAt 14 cfg0.N = res14 m c := by
  refine (dats m 0 c).arrAt_eq_of_covers 14 _ (by decide +kernel) fun t hf y => ?_
  idx_vars y
  rw [emb14]
  blk_simp
  rw [after0_14, MixKernel.out14_apply, block_row]
  simp only [in10, in11]
  rfl

end Cert.MixArrays

end
-- ==== Proof.Mix.lean ====
/- The mixing call: the kernel's three results are the reference's, where the gain of the first norm, the query
   matrix and the memory keys are finite. -/
module

public import proofs.«01_k».proof.Defs
public import proofs.«01_k».proof.Proof.Gen.Kernel2.Frame
public import proofs.«01_k».proof.Proof.Gen.Pre_finite_memory_keys
public import proofs.«01_k».proof.Proof.Gen.Reference2Ideal.Run
public import proofs.«01_k».proof.Proof.MixArrays

@[expose] public section

set_option maxRecDepth 16384

noncomputable section

namespace Cert.Mix

open Idealize.ShloMosaic Idealize.ShloMosaic.TcCoe Idealize.SL.Sem Cert.Kernel2Ideal Cert.Rows Cert.MixSpec
open Cert.MixReference (batch pos)

variable (m : (ℓ : Loc nD τ sig) → Buf (Elt Ideal) ℓ)

/-- What the precondition says of the three operands. -/
theorem fine_of_pre (h : Cert.Pre_Kernel2Ideal_finite_memory_keys m) (c : Dev nD) :
    (∀ i j, Fine (m ((c.tc : Thread nD τ).loc main_arg5) (ix3 0 i j)))
    ∧ (∀ j, Fine (m ((c.tc : Thread nD τ).loc main_arg4) (ix2 0 j)))
    ∧ ∀ i j, Fine (m ((c.tc : Thread nD τ).loc main_arg6) (ix2 i j)) := by
  have h1 (i j : Fin 1024) := congrFun (h c) (ix2 i j)
  revert h1
  pointwise [Cert.Pre_finite_memory_keys.fn, Cert.Pre_finite_memory_keys.fn_pad]
  intro h1
  refine ⟨fun i j => fine_of_test _ (and_one _ _ (and_one _ _ (h1 i j)).1).1,
    fun j => fine_of_test _ (and_one _ _ (and_one _ _ (h1 0 j)).1).2, fun i j => ?_⟩
  have h2 := (and_one _ _ (h1 ⟨i.val, by omega⟩ j)).2
  rw [dif_pos i.isLt] at h2
  exact fine_of_test _ h2

/-- A row of the second sum, the total divided out after or before the weighted sum. -/
theorem row_eq (h : Cert.Pre_Kernel2Ideal_finite_memory_keys m) (c : Dev nD) (n : Fin 16384) :
    MixArrays.rowX2 m c n
      = MixReference.rowX2 (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8)) (batch n) (pos n) := by
  obtain ⟨h5, h4, h6⟩ := fine_of_pre m h c
  unfold MixArrays.rowX2 MixReference.rowX2
  refine congrArg (fun o => plus _ o _) (funext fun k => ?_)
  have hs (j : Fin 256) := score_fine _ (fun j k => m ((c.tc : Thread nD τ).loc main_arg6) (ix2 (MixReference.mem (batch n) j) k))
    (fun k => proj_fine (MixReference.rowX1 (m ((c.tc : Thread nD τ).loc main_arg0)) (m ((c.tc : Thread nD τ).loc main_arg1)) (m ((c.tc : Thread nD τ).loc main_arg2)) (m ((c.tc : Thread nD τ).loc main_arg3)) (batch n) (pos n)) _ _ h4 h5 k) (fun _ _ => h6 _ _) k j
  exact avgAfter_eq_avgBefore _ _ (fun j => (hs j).2) 0 (hs 0).1

/-! ## The claims -/

theorem frame : Cert.quiescent_Kernel2 := fun m ρ _ => Cert.Kernel2.Gen.frame m ρ

theorem frame_ideal : Cert.quiescent_Kernel2Ideal := fun m ρ _ => Cert.Kernel2Ideal.Gen.frame m ρ

theorem frame_ideal_pre : Cert.quiescent_Kernel2Ideal_pre_finite_memory_keys :=
  fun m ρ _ => Cert.Kernel2Ideal.Gen.frame m ρ

theorem frame_reference : Cert.quiescent_Reference2Ideal := fun m ρ _ =>
  (θ_run Cert.Reference2Ideal.defs _ _).mono (fun r h => ⟨fun c => (h c).2.2.2,
    Idealize.ShloMosaic.sem_eq_zero_of_no_sems (by decide) r.2⟩) (Cert.Reference2Ideal.Value.run (F := Ideal) m ρ)

theorem frame_reference_pre : Cert.quiescent_Reference2Ideal_pre_finite_memory_keys := fun m ρ _ => frame_reference m ρ trivial

theorem preserves : Cert.preserves_Kernel2_Kernel2Ideal := trivial

theorem algebraic : Cert.algebraic_Kernel2Ideal_Reference2Ideal_pre_finite_memory_keys := by
  intro m ρ m' ρ' hpre hagree
  refine ⟨fun c => MixArrays.res12 m c, fun c => MixArrays.res13 m c, fun c => MixArrays.res14 m c, ?_, ?_⟩
  · exact (θ_run Cert.Kernel2Ideal.defs _ _).mono
      (fun _ h c => ⟨(h c).1.trans (MixArrays.final12 m c), (h c).2.1.trans (MixArrays.final13 m c),
        (h c).2.2.1.trans (MixArrays.final14 m c), (h c).2.2.2⟩) (Cert.Kernel2Ideal.Value.run_blocks (F := Ideal) m ρ)
  · refine (θ_run Cert.Reference2Ideal.defs _ _).mono
      (fun _ h c => ⟨(h c).1.trans ?_, (h c).2.1.trans ?_, (h c).2.2.1.trans ?_, (h c).2.2.2⟩)
      (Cert.Reference2Ideal.Value.run (F := Ideal) m' ρ')
    · obtain ⟨e0, e1, e2, e3, e4, e5, e6, e7, e8, e9, e10⟩ := hagree c
      rw [Cert.Reference2Ideal.Read.val_main_v65_eq, e0, e1, e2, e3, e4, e5, e6, e7, e8]
      funext y
      idx_vars y
      rw [MixReference.v65_apply, ← row_eq m hpre c]
      rfl
    · obtain ⟨e0, e1, e2, e3, e4, e5, e6, e7, e8, e9, e10⟩ := hagree c
      rw [Cert.Reference2Ideal.Read.val_main_v68_eq, e0, e1, e2, e3, e4, e5, e6, e7, e8, e9]
      funext y
      idx_vars y
      rw [MixReference.v68_apply, ← row_eq m hpre c]
      rfl
    · obtain ⟨e0, e1, e2, e3, e4, e5, e6, e7, e8, e9, e10⟩ := hagree c
      rw [Cert.Reference2Ideal.Read.val_main_v70_eq, e0, e1, e2, e3, e4, e5, e6, e7, e8, e9, e10]
      funext y
      idx_vars y
      rw [MixReference.v70_apply, ← row_eq m hpre c]
      rfl

end Cert.Mix

end
-- ==== Proof.InKernel.lean ====
/- The input call's projections at an index: each of the three, as rows of extended reals. -/
module

public import proofs.«01_k».proof.Proof.Gen.Kernel3Ideal.Skeleton
public import proofs.«01_k».proof.Proof.MixSpec
public import Idealize.ShloMosaic.Lib.Pipeline.ValueKit
public import Idealize.ShloMosaic.Lib.Pointwise

@[expose] public section

set_option maxRecDepth 16384

noncomputable section

namespace Cert.InKernel

open Idealize.ShloMosaic Cert.Kernel3Ideal Cert.Kernel3Ideal.Gen Cert.Rows Cert.MixSpec

variable (x0 : Vec Ideal S1024x1024 .f32) (x1 : Vec Ideal S1x1024 .f32) (x3 : Vec Ideal S1024x1536 .bf16)

theorem pay4_apply (r d : Fin 1024) :
    k0_pay4 x0 x1 (ix2 r d) = rms width (fun d => x0 (ix2 r d)) (fun d => x1 (ix2 0 d)) d := by
  pointwise [k0_pay4]
  rfl

theorem pay6_apply (r : Fin 1024) (d : Fin 1536) :
    k0_pay6 x0 x1 x3 (ix2 r d) = proj (fun d => x0 (ix2 r d)) (fun d => x1 (ix2 0 d)) (fun k d => x3 (ix2 k d)) d := by
  pointwise [k0_pay6]
  simp only [pay4_apply]
  rfl

theorem pay7_apply (r : Fin 1024) (d : Fin 512) :
    k0_pay7 x0 x1 x3 (ix2 r d)
      = proj (fun d => x0 (ix2 r d)) (fun d => x1 (ix2 0 d)) (fun k d => x3 (ix2 k d)) ⟨d.val, by omega⟩ := by
  pointwise [k0_pay7]
  rw [pay6_apply]

theorem pay8_apply (r : Fin 1024) (d : Fin 512) :
    k0_pay8 x0 x1 x3 (ix2 r d)
      = proj (fun d => x0 (ix2 r d)) (fun d => x1 (ix2 0 d)) (fun k d => x3 (ix2 k d)) ⟨512 + d.val, by omega⟩ := by
  pointwise [k0_pay8]
  rw [pay6_apply]

theorem pay9_apply (r : Fin 1024) (d : Fin 512) :
    k0_pay9 x0 x1 x3 (ix2 r d)
      = proj (fun d => x0 (ix2 r d)) (fun d => x1 (ix2 0 d)) (fun k d => x3 (ix2 k d)) ⟨1024 + d.val, by omega⟩ := by
  pointwise [k0_pay9]
  rw [pay6_apply]

end Cert.InKernel

end
-- ==== Proof.InReference.lean ====
/- The input projections of the reference at an index, as rows of extended reals. -/
module

public import proofs.«01_k».proof.Proof.Gen.Reference3Ideal.Read
public import proofs.«01_k».proof.Proof.MixReference

@[expose] public section

set_option maxRecDepth 16384

noncomputable section

namespace Cert.InReference

open Idealize.ShloMosaic Cert.Reference3Ideal Cert.Reference3Ideal.Gen Cert.Reference3Ideal.Read Cert.Rows Cert.MixSpec
open Cert.MixReference (batch pos)

variable (a0 : (⟨S2x8192x1024, .f32⟩ : BufTy).Contents (Elt Ideal)) (a1 : (⟨S1x1024, .f32⟩ : BufTy).Contents (Elt Ideal))
  (a2 : (⟨S1x1024x2560, .f32⟩ : BufTy).Contents (Elt Ideal))

theorem v13_apply (b : Fin 2) (s : Fin 8192) (d : Fin 1024) :
    val_main_v13 (F := Ideal) a0 a1 (ix3 b s d) = rms width (fun d => a0 (ix3 b s d)) (fun d => a1 (ix2 0 d)) d := by
  pointwise [val_main_v13, val_main_v12, val_main_v11, val_main_v10, val_main_v9, val_main_v8, val_main_v7, val_main_v6,
    val_main_cst_1, val_main_v5, val_main_v4, val_main_cst_0, val_main_v3, val_main_v2, val_main_cst, val_main_v1,
    val_main_v0]
  rfl

/-- Column `d` of the normalised row times the input matrix. -/
abbrev rowZ (b : Fin 2) (s : Fin 8192) : Fin 2560 → EReal :=
  proj (fun d => a0 (ix3 b s d)) (fun d => a1 (ix2 0 d)) fun k d => a2 (ix3 0 k d)

theorem v15_apply (b : Fin 2) (s : Fin 8192) (d : Fin 2560) :
    val_main_v15 (F := Ideal) a0 a1 a2 (ix3 b s d) = rowZ a0 a1 a2 b s d := by
  have h := v13_apply a0 a1
  unfold val_main_v15
  revert h
  generalize val_main_v13 (F := Ideal) a0 a1 = y
  intro h
  pointwise [val_main_v14]
  simp only [h]
  rfl

theorem v22_apply (n : Fin 16384) (d : Fin 512) :
    val_main_v22 (F := Ideal) a0 a1 a2 (ix2 n d) = rowZ a0 a1 a2 (batch n) (pos n) ⟨1024 + d.val, by omega⟩ := by
  rw [← v15_apply]
  unfold val_main_v22 val_main_v21 val_main_v18
  generalize val_main_v15 (F := Ideal) a0 a1 a2 = y
  pointwise
  rfl

theorem v24_apply (n : Fin 16384) (d : Fin 512) :
    val_main_v24 (F := Ideal) a0 a1 a2 (ix2 n d) = rowZ a0 a1 a2 (batch n) (pos n) ⟨1536 + d.val, by omega⟩ := by
  rw [← v15_apply]
  unfold val_main_v24 val_main_v23 val_main_v19
  generalize val_main_v15 (F := Ideal) a0 a1 a2 = y
  pointwise
  rfl

theorem v26_apply (n : Fin 16384) (d : Fin 512) :
    val_main_v26 (F := Ideal) a0 a1 a2 (ix2 n d) = rowZ a0 a1 a2 (batch n) (pos n) ⟨2048 + d.val, by omega⟩ := by
  rw [← v15_apply]
  unfold val_main_v26 val_main_v25 val_main_v20
  generalize val_main_v15 (F := Ideal) a0 a1 a2 = y
  pointwise
  rfl

end Cert.InReference

end
-- ==== Proof.InArrays.lean ====
/- The input call's arrays: what a block of each operand the projections use reads, and the three projections as
   arrays of rows. -/
module

public import proofs.«01_k».proof.Proof.Gen.Kernel3Ideal.Value
public import proofs.«01_k».proof.Proof.InKernel
public import proofs.«01_k».proof.Proof.InReference

@[expose] public section

set_option maxRecDepth 16384

noncomputable section

namespace Cert.InArrays

open Idealize.ShloMosaic Idealize.ShloMosaic.TcCoe Cert.Kernel3Ideal Cert.Kernel3Ideal.Gen Cert.Rows Cert.MixSpec
open Cert.MixReference (batch pos)

variable (m : (ℓ : Loc nD τ sig) → Buf (Elt Ideal) ℓ) (c : Dev nD)

/-- The grid point's number is below 16. -/
theorem lt16 (t : Fin cfg0.N) : t.val < 16 := lt_of_lt_of_eq t.isLt N_0

/-- The array row that row `r` of block `t` is. -/
def row (t : Fin cfg0.N) (r : Fin 1024) : Fin 16384 := ⟨t.val * 1024 + r.val, by have := lt16 t; omega⟩

theorem idx (t : Fin cfg0.N) :
    win0_0.index t = ![t.val, 0] ∧ win0_1.index t = ![0, 0] ∧ win0_3.index t = ![0, 0]
    ∧ win0_11.index t = ![t.val, 0] ∧ win0_12.index t = ![t.val, 0] ∧ win0_13.index t = ![t.val, 0] :=
  (by decide +kernel : ∀ t : Fin grid0.N, win0_0.index t = ![t.val, 0] ∧ win0_1.index t = ![0, 0] ∧ win0_3.index t = ![0, 0]
    ∧ win0_11.index t = ![t.val, 0] ∧ win0_12.index t = ![t.val, 0] ∧ win0_13.index t = ![t.val, 0]) t

theorem in0 (t : Fin cfg0.N) (r : Fin 1024) (d : Fin 1024) :
    iblk m c 0 t (ix2 r d) = m ((c : Thread nD τ).loc main_arg0) (ix3 (batch (row t r)) (pos (row t r)) d) := by
  have e : iblk m c 0 t (ix2 r d) = V m c main_v34 (ix2 (row t r) d) := by
    blk_ext [iblk, idx t]
    rfl
  rw [e]
  entry_read
  pointwise
  rfl

theorem in1 (t : Fin cfg0.N) (r : Fin 1) (d : Fin 1024) :
    iblk m c 1 t (ix2 r d) = m ((c : Thread nD τ).loc main_arg1) (ix2 0 d) := by
  have e : iblk m c 1 t (ix2 r d) = V m c main_v36 (ix2 r d) := by
    blk_ext [iblk, idx t]
  rw [e]
  entry_read
  pointwise

theorem in3 (t : Fin cfg0.N) (r : Fin 1024) (d : Fin 1536) :
    iblk m c 3 t (ix2 r d) = m ((c : Thread nD τ).loc main_arg2) (ix3 0 r ⟨1024 + d.val, by omega⟩) := by
  have e : iblk m c 3 t (ix2 r d) = V m c main_v38 (ix2 r d) := by
    blk_ext [iblk, idx t]
  rw [e]
  entry_read
  pointwise

/-- Row `n` of the input projection. -/
def rowZ (n : Fin 16384) : Fin 2560 → EReal :=
  InReference.rowZ (m ((c : Thread nD τ).loc main_arg0)) (m ((c : Thread nD τ).loc main_arg1))
    (m ((c : Thread nD τ).loc main_arg2)) (batch n) (pos n)

/-- What a point leaves of the first projection. -/
theorem after11 (t : Fin cfg0.N) : (outsAt0 m c t.val t.isLt).2.1 = k0_pay7 (iblk m c 0 t) (iblk m c 1 t) (iblk m c 3 t) := by
  by_cases h : t.val % 8 = 0
  · rw [outsAt0_A m c t h]
    frame_out
  · rw [outsAt0_B m c t h]
    frame_out

theorem after12 (t : Fin cfg0.N) : (outsAt0 m c t.val t.isLt).2.2.1 = k0_pay8 (iblk m c 0 t) (iblk m c 1 t) (iblk m c 3 t) := by
  by_cases h : t.val % 8 = 0
  · rw [outsAt0_A m c t h]
    frame_out
  · rw [outsAt0_B m c t h]
    frame_out

theorem after13 (t : Fin cfg0.N) : (outsAt0 m c t.val t.isLt).2.2.2.1 = k0_pay9 (iblk m c 0 t) (iblk m c 1 t) (iblk m c 3 t) := by
  by_cases h : t.val % 8 = 0
  · rw [outsAt0_A m c t h]
    frame_out
  · rw [outsAt0_B m c t h]
    frame_out

/-- The first projection, as an array. -/
def res11 : (⟨S16384x512, .bf16⟩ : BufTy).Contents (Elt Ideal) := fun i => rowZ m c (i 0) ⟨1024 + (i 1).val, by have := (i 1).isLt; change (i 1).val < 512 at this; omega⟩

theorem emb11 (t : Fin cfg0.N) (r : Fin 1024) (d : Fin 512) : ((cfg0.win 11).blk t).view.emb (ix2 r d) = ix2 (row t r) d := by
  blk_ext [idx t]
  rfl

theorem final11 : (dats m 0 c).arrAt 11 cfg0.N = res11 m c := by
  refine (dats m 0 c).arrAt_eq_of_covers 11 _ (by decide +kernel) fun t hf y => ?_
  idx_vars y
  rw [emb11]
  blk_simp
  rw [after0_11, after11, InKernel.pay7_apply]
  simp only [in0, in1, in3]
  rfl

/-- The second projection, as an array. -/
def res12 : (⟨S16384x512, .bf16⟩ : BufTy).Contents (Elt Ideal) := fun i => rowZ m c (i 0) ⟨1536 + (i 1).val, by have := (i 1).isLt; change (i 1).val < 512 at this; omega⟩

theorem emb12 (t : Fin cfg0.N) (r : Fin 1024) (d : Fin 512) : ((cfg0.win 12).blk t).view.emb (ix2 r d) = ix2 (row t r) d := by
  blk_ext [idx t]
  rfl

theorem final12 : (dats m 0 c).arrAt 12 cfg0.N = res12 m c := by
  refine (dats m 0 c).arrAt_eq_of_covers 12 _ (by decide +kernel) fun t hf y => ?_
  obtain ⟨r, d, rfl⟩ : ∃ (r : Fin 1024) (d : Fin 512), y = ix2 r d := ⟨y 0, y 1, eq_ix2 y⟩
  rw [emb12]
  blk_simp
  rw [after0_12, after12, InKernel.pay8_apply]
  simp only [in0, in1, in3]
  have e : (⟨1024 + (512 + d.val), by omega⟩ : Fin 2560) = ⟨1536 + d.val, by omega⟩ := Fin.ext (by show 1024 + (512 + d.val) = 1536 + d.val; omega)
  unfold proj
  simp only [e]
  rfl

/-- The third projection, as an array. -/
def res13 : (⟨S16384x512, .bf16⟩ : BufTy).Contents (Elt Ideal) := fun i => rowZ m c (i 0) ⟨2048 + (i 1).val, by have := (i 1).isLt; change (i 1).val < 512 at this; omega⟩

theorem emb13 (t : Fin cfg0.N) (r : Fin 1024) (d : Fin 512) : ((cfg0.win 13).blk t).view.emb (ix2 r d) = ix2 (row t r) d := by
  blk_ext [idx t]
  rfl

theorem final13 : (dats m 0 c).arrAt 13 cfg0.N = res13 m c := by
  refine (dats m 0 c).arrAt_eq_of_covers 13 _ (by decide +kernel) fun t hf y => ?_
  obtain ⟨r, d, rfl⟩ : ∃ (r : Fin 1024) (d : Fin 512), y = ix2 r d := ⟨y 0, y 1, eq_ix2 y⟩
  rw [emb13]
  blk_simp
  rw [after0_13, after13, InKernel.pay9_apply]
  simp only [in0, in1, in3]
  have e : (⟨1024 + (1024 + d.val), by omega⟩ : Fin 2560) = ⟨2048 + d.val, by omega⟩ := Fin.ext (by show 1024 + (1024 + d.val) = 2048 + d.val; omega)
  unfold proj
  simp only [e]
  rfl

end Cert.InArrays

end
-- ==== Proof.In.lean ====
/- The input call: the three projections are the reference's. -/
module

public import proofs.«01_k».proof.Defs
public import proofs.«01_k».proof.Proof.Gen.Kernel3.Frame
public import proofs.«01_k».proof.Proof.Gen.Reference3Ideal.Run
public import proofs.«01_k».proof.Proof.InArrays

@[expose] public section

set_option maxRecDepth 16384

noncomputable section

namespace Cert.In

open Idealize.ShloMosaic Idealize.ShloMosaic.TcCoe Idealize.SL.Sem Cert.Kernel3Ideal

theorem frame : Cert.quiescent_Kernel3 := fun m ρ _ => Cert.Kernel3.Gen.frame m ρ

theorem frame_ideal : Cert.quiescent_Kernel3Ideal := fun m ρ _ => Cert.Kernel3Ideal.Gen.frame m ρ

theorem frame_reference : Cert.quiescent_Reference3Ideal := fun m ρ _ =>
  (θ_run Cert.Reference3Ideal.defs _ _).mono (fun r h => ⟨fun c => (h c).2.2.2,
    Idealize.ShloMosaic.sem_eq_zero_of_no_sems (by decide) r.2⟩) (Cert.Reference3Ideal.Value.run (F := Ideal) m ρ)

theorem preserves : Cert.preserves_Kernel3_Kernel3Ideal := trivial

theorem algebraic : Cert.algebraic_Kernel3Ideal_Reference3Ideal := by
  intro m ρ m' ρ' _ hagree
  refine ⟨fun c => InArrays.res11 m c, fun c => InArrays.res12 m c, fun c => InArrays.res13 m c, ?_, ?_⟩
  · exact (θ_run Cert.Kernel3Ideal.defs _ _).mono
      (fun _ h c => ⟨(h c).2.1.trans (InArrays.final11 m c), (h c).2.2.1.trans (InArrays.final12 m c),
        (h c).2.2.2.1.trans (InArrays.final13 m c), (h c).2.2.2.2⟩) (Cert.Kernel3Ideal.Value.run_blocks (F := Ideal) m ρ)
  · refine (θ_run Cert.Reference3Ideal.defs _ _).mono
      (fun _ h c => ⟨(h c).1.trans ?_, (h c).2.1.trans ?_, (h c).2.2.1.trans ?_, (h c).2.2.2⟩)
      (Cert.Reference3Ideal.Value.run (F := Ideal) m' ρ')
    · obtain ⟨e0, e1, e2, -⟩ := hagree c
      rw [Cert.Reference3Ideal.Read.val_main_v22_eq, e0, e1, e2]
      funext y
      idx_vars y
      rw [InReference.v22_apply]
      rfl
    · obtain ⟨e0, e1, e2, -⟩ := hagree c
      rw [Cert.Reference3Ideal.Read.val_main_v24_eq, e0, e1, e2]
      funext y
      idx_vars y
      rw [InReference.v24_apply]
      rfl
    · obtain ⟨e0, e1, e2, -⟩ := hagree c
      rw [Cert.Reference3Ideal.Read.val_main_v26_eq, e0, e1, e2]
      funext y
      idx_vars y
      rw [InReference.v26_apply]
      rfl

end Cert.In

end
-- ==== Proof.MemKernel.lean ====
/- The memory call's keys and values at an index, as rows of extended reals. -/
module

public import proofs.«01_k».proof.Proof.Gen.Kernel4Ideal.Skeleton
public import proofs.«01_k».proof.Proof.MixSpec
public import Idealize.ShloMosaic.Lib.Pipeline.ValueKit
public import Idealize.ShloMosaic.Lib.Pointwise

@[expose] public section

set_option maxRecDepth 16384

noncomputable section

namespace Cert.MemKernel

open Idealize.ShloMosaic Cert.Kernel4Ideal Cert.Kernel4Ideal.Gen Cert.Rows Cert.MixSpec

variable (x0 : Vec Ideal S256x1024 .f32) (x1 : Vec Ideal S1x1024 .f32) (x2 : Vec Ideal S1024x2048 .bf16)

theorem pay1_apply (r : Fin 256) (d : Fin 2048) :
    k0_pay1 x0 x1 x2 (ix2 r d) = proj (fun d => x0 (ix2 r d)) (fun d => x1 (ix2 0 d)) (fun k d => x2 (ix2 k d)) d := by
  pointwise [k0_pay1]
  rfl

theorem pay2_apply (r : Fin 256) (d : Fin 1024) :
    k0_pay2 x0 x1 x2 (ix2 r d)
      = proj (fun d => x0 (ix2 r d)) (fun d => x1 (ix2 0 d)) (fun k d => x2 (ix2 k d)) ⟨d.val, by omega⟩ := by
  pointwise [k0_pay2]
  rw [pay1_apply]

theorem pay3_apply (r : Fin 256) (d : Fin 1024) :
    k0_pay3 x0 x1 x2 (ix2 r d)
      = proj (fun d => x0 (ix2 r d)) (fun d => x1 (ix2 0 d)) (fun k d => x2 (ix2 k d)) ⟨1024 + d.val, by omega⟩ := by
  pointwise [k0_pay3]
  rw [pay1_apply]

end Cert.MemKernel

end
-- ==== Proof.MemReference.lean ====
/- The memory's keys and values of the reference at an index, as rows of extended reals. -/
module

public import proofs.«01_k».proof.Proof.Gen.Reference4Ideal.Read
public import proofs.«01_k».proof.Proof.MixSpec
public import Idealize.ShloMosaic.Lib.Pointwise

@[expose] public section

set_option maxRecDepth 16384

noncomputable section

namespace Cert.MemReference

open Idealize.ShloMosaic Cert.Reference4Ideal Cert.Reference4Ideal.Gen Cert.Reference4Ideal.Read Cert.Rows Cert.MixSpec

variable (a0 : (⟨S2x256x1024, .f32⟩ : BufTy).Contents (Elt Ideal)) (a1 : (⟨S1x1024, .f32⟩ : BufTy).Contents (Elt Ideal))
  (a2 : (⟨S1x1024x2048, .f32⟩ : BufTy).Contents (Elt Ideal))

/-- The batch of a memory row. -/
def batch (n : Fin 512) : Fin 2 := ⟨n.val / 256, by omega⟩

/-- The place of a memory row in its batch. -/
def pos (n : Fin 512) : Fin 256 := ⟨n.val % 256, by omega⟩

theorem v13_apply (b : Fin 2) (s : Fin 256) (d : Fin 1024) :
    val_main_v13 (F := Ideal) a0 a1 (ix3 b s d) = rms width (fun d => a0 (ix3 b s d)) (fun d => a1 (ix2 0 d)) d := by
  pointwise [val_main_v13, val_main_v12, val_main_v11, val_main_v10, val_main_v9, val_main_v8, val_main_v7, val_main_v6,
    val_main_cst_1, val_main_v5, val_main_v4, val_main_cst_0, val_main_v3, val_main_v2, val_main_cst, val_main_v1,
    val_main_v0]
  rfl

/-- The normalised memory row times the matrix of keys and values. -/
abbrev rowKV (b : Fin 2) (s : Fin 256) : Fin 2048 → EReal :=
  proj (fun d => a0 (ix3 b s d)) (fun d => a1 (ix2 0 d)) fun k d => a2 (ix3 0 k d)

theorem v15_apply (b : Fin 2) (s : Fin 256) (d : Fin 2048) :
    val_main_v15 (F := Ideal) a0 a1 a2 (ix3 b s d) = rowKV a0 a1 a2 b s d := by
  have h := v13_apply a0 a1
  unfold val_main_v15
  revert h
  generalize val_main_v13 (F := Ideal) a0 a1 = y
  intro h
  pointwise [val_main_v14]
  simp only [h]
  rfl

theorem v22_apply (n : Fin 512) (d : Fin 1024) :
    val_main_v22 (F := Ideal) a0 a1 a2 (ix2 n d) = rowKV a0 a1 a2 (batch n) (pos n) ⟨d.val, by omega⟩ := by
  rw [← v15_apply]
  unfold val_main_v22 val_main_v21 val_main_v18 val_main_v17 val_main_v16
  generalize val_main_v15 (F := Ideal) a0 a1 a2 = y
  pointwise
  exact congrArg (fun e => y (ix3 (batch n) (pos n) e)) (Fin.ext (by show d.val / 256 * 256 + d.val % 256 = d.val; omega))

theorem v24_apply (n : Fin 512) (d : Fin 1024) :
    val_main_v24 (F := Ideal) a0 a1 a2 (ix2 n d) = rowKV a0 a1 a2 (batch n) (pos n) ⟨1024 + d.val, by omega⟩ := by
  rw [← v15_apply]
  unfold val_main_v24 val_main_v23 val_main_v20 val_main_v19 val_main_v16
  generalize val_main_v15 (F := Ideal) a0 a1 a2 = y
  pointwise
  exact congrArg (fun e => y (ix3 (batch n) (pos n) e)) (Fin.ext (by show 1024 + d.val / 256 * 256 + d.val % 256 = 1024 + d.val; omega))

end Cert.MemReference

end
-- ==== Proof.MemArrays.lean ====
/- The memory call's arrays: what a block of each operand reads, and the keys and the values as arrays of rows. -/
module

public import proofs.«01_k».proof.Proof.Gen.Kernel4Ideal.Value
public import proofs.«01_k».proof.Proof.MemKernel
public import proofs.«01_k».proof.Proof.MemReference

@[expose] public section

set_option maxRecDepth 16384

noncomputable section

namespace Cert.MemArrays

open Idealize.ShloMosaic Idealize.ShloMosaic.TcCoe Cert.Kernel4Ideal Cert.Kernel4Ideal.Gen Cert.Rows Cert.MixSpec
open Cert.MemReference (batch pos)

variable (m : (ℓ : Loc nD τ sig) → Buf (Elt Ideal) ℓ) (c : Dev nD)

/-- The grid point's number is below 2. -/
theorem lt2 (t : Fin cfg0.N) : t.val < 2 := lt_of_lt_of_eq t.isLt N_0

/-- The array row that row `r` of block `t` is. -/
def row (t : Fin cfg0.N) (r : Fin 256) : Fin 512 := ⟨t.val * 256 + r.val, by have := lt2 t; omega⟩

theorem idx (t : Fin cfg0.N) :
    win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, win0_0.index t = ![t.val, 0] ∧ win0_1.index t = ![0, 0]
    ∧ win0_2.index t = ![0, 0] ∧ win0_3.index t = ![t.val, 0] ∧ win0_4.index t = ![t.val, 0]) t

theorem in0 (t : Fin cfg0.N) (r : Fin 256) (d : Fin 1024) :
    iblk m c 0 t (ix2 r d) = m ((c : Thread nD τ).loc main_arg0) (ix3 (batch (row t r)) (pos (row t r)) d) := by
  have e : iblk m c 0 t (ix2 r d) = V m c main_v0 (ix2 (row t r) d) := by
    blk_ext [iblk, idx t]
    rfl
  rw [e]
  entry_read
  pointwise
  rfl

theorem in1 (t : Fin cfg0.N) (r : Fin 1) (d : Fin 1024) :
    iblk m c 1 t (ix2 r d) = m ((c : Thread nD τ).loc main_arg1) (ix2 0 d) := by
  have e : iblk m c 1 t (ix2 r d) = V m c main_v2 (ix2 r d) := by
    blk_ext [iblk, idx t]
  rw [e]
  entry_read
  pointwise

theorem in2 (t : Fin cfg0.N) (r : Fin 1024) (d : Fin 2048) :
    iblk m c 2 t (ix2 r d) = m ((c : Thread nD τ).loc main_arg2) (ix3 0 r d) := by
  have e : iblk m c 2 t (ix2 r d) = V m c main_v4 (ix2 r d) := by
    blk_ext [iblk, idx t]
  rw [e]
  entry_read
  pointwise

/-- Row `n` of the memory's keys and values. -/
def rowKV (n : Fin 512) : Fin 2048 → EReal :=
  MemReference.rowKV (m ((c : Thread nD τ).loc main_arg0)) (m ((c : Thread nD τ).loc main_arg1))
    (m ((c : Thread nD τ).loc main_arg2)) (batch n) (pos n)

/-- The keys, as an array. -/
def res3 : (⟨S512x1024, .bf16⟩ : BufTy).Contents (Elt Ideal) := fun i =>
  rowKV m c (i 0) ⟨(i 1).val, by have := (i 1).isLt; change (i 1).val < 1024 at this; omega⟩

theorem emb3 (t : Fin cfg0.N) (r : Fin 256) (d : Fin 1024) :
    ((cfg0.win 3).blk t).view.emb (ix2 r d) = ix2 (row t r) d := by
  blk_ext [idx t]
  rfl

theorem after3 (t : Fin cfg0.N) :
    out0_3 (iblk m c 0 t) (iblk m c 1 t) (iblk m c 2 t) = k0_pay2 (iblk m c 0 t) (iblk m c 1 t) (iblk m c 2 t) := by
  frame_out

theorem final3 : (dats m 0 c).arrAt 3 cfg0.N = res3 m c := by
  refine (dats m 0 c).arrAt_eq_of_covers 3 _ (by decide +kernel) fun t hf y => ?_
  idx_vars y
  rw [emb3]
  blk_simp
  rw [after0_3, after3, MemKernel.pay2_apply]
  simp only [in0, in1, in2]
  rfl

/-- The values, as an array. -/
def res4 : (⟨S512x1024, .bf16⟩ : BufTy).Contents (Elt Ideal) := fun i =>
  rowKV m c (i 0) ⟨1024 + (i 1).val, by have := (i 1).isLt; change (i 1).val < 1024 at this; omega⟩

theorem emb4 (t : Fin cfg0.N) (r : Fin 256) (d : Fin 1024) :
    ((cfg0.win 4).blk t).view.emb (ix2 r d) = ix2 (row t r) d := by
  blk_ext [idx t]
  rfl

theorem after4 (t : Fin cfg0.N) :
    out0_4 (iblk m c 0 t) (iblk m c 1 t) (iblk m c 2 t) = k0_pay3 (iblk m c 0 t) (iblk m c 1 t) (iblk m c 2 t) := by
  frame_out

theorem final4 : (dats m 0 c).arrAt 4 cfg0.N = res4 m c := by
  refine (dats m 0 c).arrAt_eq_of_covers 4 _ (by decide +kernel) fun t hf y => ?_
  idx_vars y
  rw [emb4]
  blk_simp
  rw [after0_4, after4, MemKernel.pay3_apply]
  simp only [in0, in1, in2]
  rfl

end Cert.MemArrays

end
-- ==== Proof.Mem.lean ====
/- The memory call: its keys and values are the reference's. -/
module

public import proofs.«01_k».proof.Defs
public import proofs.«01_k».proof.Proof.Gen.Kernel4.Frame
public import proofs.«01_k».proof.Proof.Gen.Reference4Ideal.Run
public import proofs.«01_k».proof.Proof.MemArrays

@[expose] public section

set_option maxRecDepth 16384

noncomputable section

namespace Cert.Mem

open Idealize.ShloMosaic Idealize.ShloMosaic.TcCoe Idealize.SL.Sem Cert.Kernel4Ideal

theorem frame : Cert.quiescent_Kernel4 := fun m ρ _ => Cert.Kernel4.Gen.frame m ρ

theorem frame_ideal : Cert.quiescent_Kernel4Ideal := fun m ρ _ => Cert.Kernel4Ideal.Gen.frame m ρ

theorem frame_reference : Cert.quiescent_Reference4Ideal := fun m ρ _ =>
  (θ_run Cert.Reference4Ideal.defs _ _).mono (fun r h => ⟨fun c => (h c).2.2,
    Idealize.ShloMosaic.sem_eq_zero_of_no_sems (by decide) r.2⟩) (Cert.Reference4Ideal.Value.run (F := Ideal) m ρ)

theorem preserves : Cert.preserves_Kernel4_Kernel4Ideal := trivial

theorem algebraic : Cert.algebraic_Kernel4Ideal_Reference4Ideal := by
  intro m ρ m' ρ' _ hagree
  refine ⟨fun c => MemArrays.res3 m c, fun c => MemArrays.res4 m c, ?_, ?_⟩
  · exact (θ_run Cert.Kernel4Ideal.defs _ _).mono
      (fun _ h c => ⟨(h c).1.trans (MemArrays.final3 m c), (h c).2.1.trans (MemArrays.final4 m c), (h c).2.2⟩)
      (Cert.Kernel4Ideal.Value.run_blocks (F := Ideal) m ρ)
  · refine (θ_run Cert.Reference4Ideal.defs _ _).mono
      (fun _ h c => ⟨(h c).1.trans ?_, (h c).2.1.trans ?_, (h c).2.2⟩)
      (Cert.Reference4Ideal.Value.run (F := Ideal) m' ρ')
    · obtain ⟨e0, e1, e2⟩ := hagree c
      rw [Cert.Reference4Ideal.Read.val_main_v22_eq, e0, e1, e2]
      funext y
      idx_vars y
      rw [MemReference.v22_apply]
      rfl
    · obtain ⟨e0, e1, e2⟩ := hagree c
      rw [Cert.Reference4Ideal.Read.val_main_v24_eq, e0, e1, e2]
      funext y
      idx_vars y
      rw [MemReference.v24_apply]
      rfl

end Cert.Mem

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Pre_finite_keys
public import proofs.«01_k».proof.Proof.Gen.Pre_finite_memory_keys
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Att
public import proofs.«01_k».proof.Proof.Mix
public import proofs.«01_k».proof.Proof.In
public import proofs.«01_k».proof.Proof.Mem
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Pre_finite_keys.Gen.facts,
    Cert.Pre_finite_memory_keys.Gen.facts,
    Cert.Att.frame,
    Cert.Att.frame_ideal,
    Cert.Att.frame_ideal_pre,
    Cert.Att.frame_reference,
    Cert.Att.frame_reference_pre,
    Cert.Mix.frame,
    Cert.Mix.frame_ideal,
    Cert.Mix.frame_ideal_pre,
    Cert.Mix.frame_reference,
    Cert.Mix.frame_reference_pre,
    Cert.In.frame,
    Cert.In.frame_ideal,
    Cert.In.frame_reference,
    Cert.Mem.frame,
    Cert.Mem.frame_ideal,
    Cert.Mem.frame_reference,
    Cert.Att.preserves,
    Cert.Att.algebraic,
    Cert.Mix.preserves,
    Cert.Mix.algebraic,
    Cert.In.preserves,
    Cert.In.algebraic,
    Cert.Mem.preserves,
    Cert.Mem.algebraic⟩

end Cert.Proof

end
